-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "neg_half_log2e" .f32 0xBF38AA3B#32 (((-1 / 2) * (Real.log 2)⁻¹ : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4x1536x16384 : Shape := ⟨3, ![4, 1536, 16384]⟩
abbrev S4x1536x1 : Shape := ⟨3, ![4, 1536, 1]⟩
abbrev S16384x6656 : Shape := ⟨2, ![16384, 6656]⟩
abbrev S6656 : Shape := ⟨1, ![6656]⟩
abbrev S6144x16384 : Shape := ⟨2, ![6144, 16384]⟩
abbrev S6144x1 : Shape := ⟨2, ![6144, 1]⟩
abbrev S1x6656 : Shape := ⟨2, ![1, 6656]⟩
abbrev S6144x6656 : Shape := ⟨2, ![6144, 6656]⟩
abbrev S512x16384 : Shape := ⟨2, ![512, 16384]⟩
abbrev S512x1 : Shape := ⟨2, ![512, 1]⟩
abbrev S16384x512 : Shape := ⟨2, ![16384, 512]⟩
abbrev S1x512 : Shape := ⟨2, ![1, 512]⟩
abbrev S512x6656 : Shape := ⟨2, ![512, 6656]⟩
abbrev S13x512x512 : Shape := ⟨3, ![13, 512, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S4x1536x16384, .fp8e4m3⟩
  | .hbm, ⟨1, _⟩ => ⟨S4x1536x1, .f32⟩
  | .hbm, ⟨2, _⟩ => ⟨S16384x6656, .fp8e4m3⟩
  | .hbm, ⟨3, _⟩ => ⟨S6656, .f32⟩
  | .hbm, ⟨4, _⟩ => ⟨S6656, .bf16⟩
  | .hbm, ⟨5, _⟩ => ⟨S6144x16384, .fp8e4m3⟩
  | .hbm, ⟨6, _⟩ => ⟨S6144x1, .f32⟩
  | .hbm, ⟨7, _⟩ => ⟨S1x6656, .f32⟩
  | .hbm, ⟨8, _⟩ => ⟨S1x6656, .bf16⟩
  | .hbm, ⟨9, _⟩ => ⟨S6144x6656, .fp8e4m3⟩
  | .hbm, ⟨10, _⟩ => ⟨S6144x1, .f32⟩
  | .local _ .vmem, ⟨0, _⟩ => ⟨S512x16384, .fp8e4m3⟩
  | .local _ .vmem, ⟨1, _⟩ => ⟨S512x16384, .fp8e4m3⟩
  | .local _ .vmem, ⟨2, _⟩ => ⟨S512x1, .f32⟩
  | .local _ .vmem, ⟨3, _⟩ => ⟨S512x1, .f32⟩
  | .local _ .vmem, ⟨4, _⟩ => ⟨S16384x512, .fp8e4m3⟩
  | .local _ .vmem, ⟨5, _⟩ => ⟨S16384x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .bf16⟩
  | .local _ .vmem, ⟨9, _⟩ => ⟨S1x512, .bf16⟩
  | .local _ .vmem, ⟨10, _⟩ => ⟨S512x6656, .fp8e4m3⟩
  | .local _ .vmem, ⟨11, _⟩ => ⟨S512x6656, .fp8e4m3⟩
  | .local _ .vmem, ⟨12, _⟩ => ⟨S512x1, .f32⟩
  | .local _ .vmem, ⟨13, _⟩ => ⟨S512x1, .f32⟩
  | .local _ .vmem, ⟨14, _⟩ => ⟨S13x512x512, .f32⟩
  | .local _ .vmem, ⟨15, _⟩ => ⟨S512x1, .f32⟩
  | _, _ => ⟨S4x1536x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 13], ![false, false]⟩

def k0_off1 (i : grid0.Coords) : Fin 3 → Nat :=
  let arg1 : BitVec 32 := BitVec.ofNat 32 (i 1).val
  let v59 : Index := Scalar.indexCast arg1
  let c0_23 : Index := 0#32
  let c0_24 : Index := 0#32
  ![v59.toNat, 0, 0]
def k0_cond3 (i : grid0.Coords) : BitVec 1 :=
  let arg1 : BitVec 32 := BitVec.ofNat 32 (i 1).val
  let c12_i32 : BitVec 32 := 12#32
  let v72 : BitVec 1 := Scalar.cmpi .eq arg1 c12_i32
  let v73 : BitVec 32 := Scalar.extui v72
  let c0_i32_29 : BitVec 32 := 0#32
  let v74 : BitVec 1 := Scalar.cmpi .ne v73 c0_i32_29
  v74

@[reducible] def k0_t1_loop : Scf.Loop 32 :=
  let c0_i32_51 : BitVec 32 := 0#32
  let c13_i32 : BitVec 32 := 13#32
  let v161 : BitVec 32 := Scalar.addi c0_i32_51 c13_i32
  let c1_i32_52 : BitVec 32 := 1#32
  ⟨c0_i32_51, v161, c1_i32_52⟩
def k0_off2 (k0_t1 : Fin k0_t1_loop.trips) : Fin 3 → Nat :=
  let c0_i32_55 : BitVec 32 := 0#32
  let c0_i32_51 : BitVec 32 := 0#32
  let c1_i32_52 : BitVec 32 := 1#32
  let arg11 : BitVec 32 := Scf.iv c0_i32_51 c1_i32_52 k0_t1
  let c1_i32_54 : BitVec 32 := 1#32
  let v162 : BitVec 32 := Scalar.muli arg11 c1_i32_54
  let v163 : BitVec 32 := Scalar.addi c0_i32_55 v162
  let v164 : Index := Scalar.indexCast v163
  let c0_56 : Index := 0#32
  let c0_57 : Index := 0#32
  ![v164.toNat, 0, 0]
def k0_mult1 (k0_t1 : Fin k0_t1_loop.trips) : BitVec 32 :=
  let c0_i32_55 : BitVec 32 := 0#32
  let c0_i32_51 : BitVec 32 := 0#32
  let c1_i32_52 : BitVec 32 := 1#32
  let arg11 : BitVec 32 := Scf.iv c0_i32_51 c1_i32_52 k0_t1
  let c1_i32_54 : BitVec 32 := 1#32
  let v162 : BitVec 32 := Scalar.muli arg11 c1_i32_54
  let v163 : BitVec 32 := Scalar.addi c0_i32_55 v162
  let c512_i32 : BitVec 32 := 512#32
  let v174 : BitVec 32 := Scalar.muli v163 c512_i32
  v174
def k0_off3 (k0_t1 : Fin k0_t1_loop.trips) : Fin 2 → Nat :=
  let c0_60 : Index := 0#32
  let c0_i32_55 : BitVec 32 := 0#32
  let c0_i32_51 : BitVec 32 := 0#32
  let c1_i32_52 : BitVec 32 := 1#32
  let arg11 : BitVec 32 := Scf.iv c0_i32_51 c1_i32_52 k0_t1
  let c1_i32_54 : BitVec 32 := 1#32
  let v162 : BitVec 32 := Scalar.muli arg11 c1_i32_54
  let v163 : BitVec 32 := Scalar.addi c0_i32_55 v162
  let c512_i32 : BitVec 32 := 512#32
  let v174 : BitVec 32 := Scalar.muli v163 c512_i32
  let v175 : BitVec 32 := v174
  let v176 : Index := Scalar.indexCast v175
  ![0, v176.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x6656 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "neg_half_log2e" => some (((-1 / 2) * (Real.log 2)⁻¹ : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S4x1536x16384 : Shape := ⟨3, ![4, 1536, 16384]⟩
abbrev S4x1536x1 : Shape := ⟨3, ![4, 1536, 1]⟩
abbrev S16384x6656 : Shape := ⟨2, ![16384, 6656]⟩
abbrev S6656 : Shape := ⟨1, ![6656]⟩
abbrev S6144x16384 : Shape := ⟨2, ![6144, 16384]⟩
abbrev S6144x1 : Shape := ⟨2, ![6144, 1]⟩
abbrev S1x6656 : Shape := ⟨2, ![1, 6656]⟩
abbrev S6144x6656 : Shape := ⟨2, ![6144, 6656]⟩
abbrev S6144 : Shape := ⟨1, ![6144]⟩

abbrev nBuf : Space → Nat
  | .hbm => 11
  | .vmem => 7
  | .smem => 0
  | _ => 0

abbrev bufTy : (tb : Table) → Fin (tcTables nBuf tb) → BufTy
  | .hbm, ⟨0, _⟩ => ⟨S4x1536x16384, .fp8e4m3⟩
  | .hbm, ⟨1, _⟩ => ⟨S4x1536x1, .f32⟩
  | .hbm, ⟨2, _⟩ => ⟨S16384x6656, .fp8e4m3⟩
  | .hbm, ⟨3, _⟩ => ⟨S6656, .f32⟩
  | .hbm, ⟨4, _⟩ => ⟨S6656, .bf16⟩
  | .hbm, ⟨5, _⟩ => ⟨S6144x16384, .fp8e4m3⟩
  | .hbm, ⟨6, _⟩ => ⟨S6144x1, .f32⟩
  | .hbm, ⟨7, _⟩ => ⟨S1x6656, .f32⟩
  | .hbm, ⟨8, _⟩ => ⟨S1x6656, .bf16⟩
  | .hbm, ⟨9, _⟩ => ⟨S6144x6656, .fp8e4m3⟩
  | .hbm, ⟨10, _⟩ => ⟨S6144x1, .f32⟩
  | .local _ .vmem, ⟨0, _⟩ => ⟨S6144x16384, .fp8e4m3⟩
  | .local _ .vmem, ⟨1, _⟩ => ⟨S6144x1, .f32⟩
  | .local _ .vmem, ⟨2, _⟩ => ⟨S16384x6656, .fp8e4m3⟩
  | .local _ .vmem, ⟨3, _⟩ => ⟨S1x6656, .f32⟩
  | .local _ .vmem, ⟨4, _⟩ => ⟨S1x6656, .bf16⟩
  | .local _ .vmem, ⟨5, _⟩ => ⟨S6144x6656, .fp8e4m3⟩
  | .local _ .vmem, ⟨6, _⟩ => ⟨S6144x1, .f32⟩
  | _, _ => ⟨S4x1536x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x6656 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x6656 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Conds.lean ====
/- Which branch of the kernel body runs at which grid point: the first column block of a row block starts the
   running maximum, the later ones continue it, the last one (column block 12) writes the results. Also where the
   two result windows are idle, and the staging memrefs of a point under names of their own. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 13) — by arithmetic of the point. -/
theorem hcond0_0 : ∀ t : Fin cfg0.N, cond0_0 (grid0.coords t) ↔ t.val % 13 = 0 :=
  (fun t => by
    have ht : t.val < 156 := Nat.lt_of_lt_of_eq t.isLt N_0
    have e0 : (grid0.coords t 0).val = t.val / 13 % 12 := Pipeline.Grid.coords_val t 0 (by decide) rfl
    have e1 : (grid0.coords t 1).val = t.val / 1 % 13 := Pipeline.Grid.coords_val t 1 (by decide) rfl
    simp only [cond0_0, e0, e1]
    word_cmp
   : ∀ t : Fin grid0.N, cond0_0 (grid0.coords t) ↔ t.val % 13 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 13 :=
  (by decide +kernel : ∀ t : Fin grid0.N, cond0_1 (grid0.coords t) ↔ 1 ≤ t.val % 13)

/-- The condition of the body's `scf.if` 2 (`k0_h3`), from the grid coordinates (the skeleton's scalar
    chain substituted). -/
abbrev cond0_2 (i : grid0.Coords) : Prop := k0_cond3 i = 1#1
/-- It holds at the points ≡ 12 (mod 13) — by arithmetic of the point. -/
theorem hcond0_2 : ∀ t : Fin cfg0.N, cond0_2 (grid0.coords t) ↔ t.val % 13 = 12 :=
  (fun t => by
    have ht : t.val < 156 := Nat.lt_of_lt_of_eq t.isLt N_0
    have e0 : (grid0.coords t 0).val = t.val / 13 % 12 := Pipeline.Grid.coords_val t 0 (by decide) rfl
    have e1 : (grid0.coords t 1).val = t.val / 1 % 13 := Pipeline.Grid.coords_val t 1 (by decide) rfl
    simp only [cond0_2, k0_cond3, e0, e1]
    word_cmp
   : ∀ t : Fin grid0.N, cond0_2 (grid0.coords t) ↔ t.val % 13 = 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → cond0_1 (grid0.coords t) → ¬cond0_2 (grid0.coords t) → cfg0.idle 5 (grid0.coords t) = true := by decide +kernel
/-- At the points of case B the pipeline does not write output 5's block back. -/
theorem noFlush0_5_B : ∀ t : Fin cfg0.N, ¬cond0_0 (grid0.coords t) → cond0_1 (grid0.coords t) → ¬cond0_2 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cond0_2 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cond0_2 (grid0.coords t) → cfg0.idle 6 (grid0.coords t) = false := by decide +kernel

/-! ## The kernel body on any staging memrefs: a subtype the run finds -/

/-- One staging buffer of an output window, through which its contents are stated. -/
abbrev VO0_5 : View sig .tc .vmem S512x6656 .fp8e4m3 := (Memref.whole cc0_stg5_0 : Memref sig .tc .vmem S512x6656 .fp8e4m3).view
/-- One staging buffer of an output window, through which its contents are stated. -/
abbrev VO0_6 : View sig .tc .vmem S512x1 .f32 := (Memref.whole cc0_stg6_0 : Memref sig .tc .vmem S512x1 .f32).view
/-- Each window's current staging memref at point `t`, spelled as the pipeline passes it (`bodyAt0`), and its wholeness. -/
abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x6656 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S13x512x512 .f32 := Memref.whole cc0_scratch0
abbrev scM0_1 : Memref sig .tc .vmem S512x1 .f32 := Memref.whole cc0_scratch1
/-- The two scratches the kernel carries between points (the activations of the row block, the running row
    maximum), as views: what they hold is stated through them. -/
abbrev VS0_0 : View sig .tc .vmem S13x512x512 .f32 := scM0_0.view
abbrev VS0_1 : View sig .tc .vmem S512x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Kernel.Finish.lean ====
/- The last branch of the kernel body, run on its own: the scale of each row and the codes of the row block. -/
module

public import proofs.«01_k».proof.Proof.Kernel.Conds

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running row maximum as the last branch loads it from its scratch. -/
abbrev rowMax (arg10 : Memref sig .tc .vmem S512x1 .f32) (X10 : BufTy.Contents (Elt F) arg10.view.ty) : Vec F S512x1 .f32 :=
  arg10.view.readAt (Elt F) (Rect.unit (s := S512x1) ![0, 0] S512x1.size inb_S512x1_S512x1_0_0).toLoadRect X10

/-- The first part of the last branch: it loads the row maximum and computes from it. -/
theorem run_part1 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (X10 : BufTy.Contents (Elt F) arg10.view.ty) (E : Set ℕ) (K : (Σ' (v77 : FVec F S512x1 .f32) (v113 : IVec S512x1 32) (v115 : IVec S512x1 32), FVec F S512x1 .f32) → sProp 𝕄) :
    iprop((arg10.view.loc (c : Thread nD τ) ↦[arg10.view.set]{fullShare} X10) ∗ ((arg10.view.loc (c : Thread nD τ) ↦[arg10.view.set]{fullShare} X10) -∗ K ⟨k0_pay7 (rowMax arg10 X10), k0_pay8 (rowMax arg10 X10), k0_pay9 (rowMax arg10 X10), k0_pay10 (rowMax arg10 X10)⟩))
      ⊢ wp frame (wpE (defs₀ (F := F)) Variants.none c none) E (k0_part1 i arg2 harg2 arg3 harg3 arg4 harg4 arg5 harg5 arg6 harg6 arg7 harg7 arg8 harg8 arg9 harg9 arg10 harg10) K := by
  rw [k0_part1_eq_skeleton]; unfold k0_part1_skel
  iintro ⟨HS1, Hk⟩
  sl_exec
  sl_step
  iapply Hk
  iexact HS1

/-- The second part of the last branch: it stores the scales and returns their inverses. -/
theorem run_part2 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (v77 : FVec F S512x1 .f32) (v113 : IVec S512x1 32) (v115 : IVec S512x1 32) (v118 : FVec F S512x1 .f32)
    (f6 : BufTy.Contents (Elt F) arg8.view.ty) (E : Set ℕ) (K : FVec F S512x1 .f32 → sProp 𝕄) :
    iprop((arg8.view.loc (c : Thread nD τ) ↦[arg8.view.set]{fullShare} f6) ∗ ((arg8.view.loc (c : Thread nD τ) ↦[arg8.view.set]{fullShare} arg8.view.writes (Elt F) f6 [⟨(Rect.unit (s := S512x1) ![0, 0] S512x1.size inb_S512x1_S512x1_0_0), k0_pay12 v77 v113 v115 v118⟩]) -∗ K (k0_pay13 v77 v113 v115 v118)))
      ⊢ wp frame (wpE (defs₀ (F := F)) Variants.none c none) E (k0_part2 i arg2 harg2 arg3 harg3 arg4 harg4 arg5 harg5 arg6 harg6 arg7 harg7 arg8 harg8 arg9 harg9 arg10 harg10 v77 v113 v115 v118) K := by
  rw [k0_part2_eq_skeleton]; unfold k0_part2_skel
  iintro ⟨H6, Hk⟩
  sl_exec
  sl_step
  iapply Hk
  iexact H6

/-- The loop of the last branch: one trip per column block, each writing that block's codes. -/
theorem run_loop (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty)
    (f5 : BufTy.Contents (Elt F) arg7.view.ty) (E : Set ℕ) (K : Unit → sProp 𝕄) :
    iprop((arg9.view.loc (c : Thread nD τ) ↦[arg9.view.set]{fullShare} X9) ∗ (arg7.view.loc (c : Thread nD τ) ↦[arg7.view.set]{fullShare} f5) ∗ (iprop((arg9.view.loc (c : Thread nD τ) ↦[arg9.view.set]{fullShare} X9) ∗ (arg7.view.loc (c : Thread nD τ) ↦[arg7.view.set]{fullShare} arg7.view.writes (Elt F) f5 (pb_k0_t1 (F := F) Variants.none c none i arg2 harg2 arg3 harg3 arg4 harg4 arg5 harg5 arg6 harg6 arg7 harg7 arg8 harg8 arg9 harg9 arg10 harg10 k0_h3 v159 X9 k0_t1_loop.trips))) -∗ K ⟨⟩))
      ⊢ wp frame (wpE (defs₀ (F := F)) Variants.none c none) E (Scf.Loop.for k0_t1_loop (k0_t1_ok i k0_h3) ⟨⟩ (k0_t1_body i arg2 harg2 arg3 harg3 arg4 harg4 arg5 harg5 arg6 harg6 arg7 harg7 arg8 harg8 arg9 harg9 arg10 harg10 k0_h3 v159)) K := by
  iintro ⟨HS0, H5, Hk⟩
  sl_exec
  iapply Hk
  isplitl [HS0]; · iexact HS0
  iexact H5

end Cert.Kernel.Gen

end
-- ==== Proof.Kernel.Payloads.lean ====
/- The values the kernel body computes at one grid point, as functions of the blocks it reads. -/
module

public import proofs.«01_k».proof.Proof.Kernel.Conds
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activations of one row block and one column block, as stored: a tile of the scratch. -/
noncomputable def gTile (x0 : Vec F S512x16384 .fp8e4m3) (x1 : Vec F S512x1 .f32) (x2 : Vec F S16384x512 .fp8e4m3) (x3 : Vec F S1x512 .f32) (x4 : Vec F S1x512 .bf16) : FVec F S1x512x512 .f32 :=
  k0_pay2 (k0_pay14 x0 x2 x1 x3 x4) (k0_pay15 x0 x2 x1 x3 x4) (k0_pay16 x0 x2 x1 x3 x4) (k0_pay17 x0 x2 x1 x3 x4) (Scalar.ofBits .f32 0x3DD814ED#32)

/-- The row maxima of the magnitudes of one tile. -/
noncomputable def firstMax (x0 : Vec F S512x16384 .fp8e4m3) (x1 : Vec F S512x1 .f32) (x2 : Vec F S16384x512 .fp8e4m3) (x3 : Vec F S1x512 .f32) (x4 : Vec F S1x512 .bf16) : FVec F S512x1 .f32 :=
  k0_pay4 (k0_pay14 x0 x2 x1 x3 x4) (k0_pay15 x0 x2 x1 x3 x4) (k0_pay16 x0 x2 x1 x3 x4) (k0_pay17 x0 x2 x1 x3 x4) (Scalar.ofBits .f32 0x3DD814ED#32)

/-- The running row maxima `a` continued over one more tile. -/
noncomputable def nextMax (x0 : Vec F S512x16384 .fp8e4m3) (x1 : Vec F S512x1 .f32) (x2 : Vec F S16384x512 .fp8e4m3) (x3 : Vec F S1x512 .f32) (x4 : Vec F S1x512 .bf16) (a : Vec F S512x1 .f32) : FVec F S512x1 .f32 :=
  k0_pay5 (k0_pay14 x0 x2 x1 x3 x4) (k0_pay15 x0 x2 x1 x3 x4) (k0_pay16 x0 x2 x1 x3 x4) (k0_pay17 x0 x2 x1 x3 x4) (Scalar.ofBits .f32 0x3DD814ED#32) a

/-- The scales of the rows, from their maxima. -/
noncomputable def scaleOf (a : Vec F S512x1 .f32) : FVec F S512x1 .f32 :=
  k0_pay12 (k0_pay7 a) (k0_pay8 a) (k0_pay9 a) (k0_pay10 a)

/-- The inverse scales of the rows, from their maxima. -/
noncomputable def invOf (a : Vec F S512x1 .f32) : FVec F S512x1 .f32 :=
  k0_pay13 (k0_pay7 a) (k0_pay8 a) (k0_pay9 a) (k0_pay10 a)

/-- The scratch of activations with one tile put at column block `i 1`. -/
noncomputable def putTile (i : grid0.Coords) (w : FVec F S1x512x512 .f32) (s : Vec F S13x512x512 .f32) : Vec F S13x512x512 .f32 :=
  VecWindow.put s ![(i 1).val, 0, 0] S1x512x512.size w

/-- A tile lies inside the scratch of activations. -/
theorem tile_inb (k : Fin 13) : ∀ a, (![k.val, 0, 0] : Fin 3 → ℕ) a + S1x512x512.size a ≤ S13x512x512.size a := by
  revert k; decide

/-- The tile of column block `k` read from the scratch of activations. -/
noncomputable def tileAt (s : Vec F S13x512x512 .f32) (k : Fin 13) : Vec F S1x512x512 .f32 :=
  VecWindow.window s ![k.val, 0, 0] S1x512x512.size (tile_inb k)

/-- The column block a column of the codes lies in. -/
def blockOf (y : S512x6656.Idx) : Fin 13 :=
  ⟨(y 1).val / 512, by
    have h : (y 1).val < 6656 := (y 1).isLt
    omega⟩

/-- Where an index of the codes lies within its column block. -/
def inBlock (y : S512x6656.Idx) : S512x512.Idx := fun a => match a with
  | ⟨0, _⟩ => (⟨(y 0).val, (y 0).isLt⟩ : Fin 512)
  | ⟨1, _⟩ => (⟨(y 1).val % 512, Nat.mod_lt _ (by decide)⟩ : Fin 512)

/-- The codes of a row block, from the inverse scales and the thirteen tiles of activations. -/
noncomputable def codesOf (inv : FVec F S512x1 .f32) (t : Fin 13 → Vec F S1x512x512 .f32) : Vec F S512x6656 .fp8e4m3 :=
  fun y => k0_pay6 inv (t (blockOf y)) (inBlock y)

/-- The tile just put is the tile read back there. -/
theorem tileAt_putTile_same (i : grid0.Coords) (w : FVec F S1x512x512 .f32) (s : Vec F S13x512x512 .f32) (k : Fin 13)
    (h : k.val = (i 1).val) : tileAt (putTile i w s) k = w := by
  unfold tileAt putTile
  rw [h.symm]
  funext y
  rw [VecWindow.window_put_of_inside s _ _ _ _ (tile_inb k) w (fun a => ⟨le_rfl, le_rfl⟩)]
  refine congrArg w (funext fun a => Fin.ext ?_)
  show _ - _ + 1 * (y a).val = (y a).val
  omega

/-- The other tiles are untouched by a put. -/
theorem tileAt_putTile_other (i : grid0.Coords) (w : FVec F S1x512x512 .f32) (s : Vec F S13x512x512 .f32) (k : Fin 13)
    (h : k.val ≠ (i 1).val) : tileAt (putTile i w s) k = tileAt s k := by
  unfold tileAt putTile
  refine VecWindow.window_put_of_disjoint s _ _ _ _ (tile_inb k) w 0 ?_
  show k.val + 1 ≤ (i 1).val ∨ (i 1).val + 1 ≤ k.val
  omega

end Cert.Kernel.Gen

end
-- ==== Proof.Kernel.Parts.lean ====
/- The first part of the kernel body and one trip of its loop, run on their own. -/
module

public import proofs.«01_k».proof.Proof.Kernel.Finish
public import proofs.«01_k».proof.Proof.Kernel.Payloads

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first part of the body: it loads the five inputs and computes from them. -/
theorem run_part3 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (x0 : Vec F S512x16384 .fp8e4m3) (x1 : Vec F S512x1 .f32) (x2 : Vec F S16384x512 .fp8e4m3) (x3 : Vec F S1x512 .f32) (x4 : Vec F S1x512 .bf16) (E : Set ℕ) (K : (Σ' (arg1 : BitVec 32) (v16 : FVec F S512x512 .f32) (v17 : FVec F S512x512 .f32) (v23 : FVec F S512x512 .f32) (v37 : FVec F S512x512 .f32), F .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) -∗ K ⟨BitVec.ofNat 32 (i 1).val, k0_pay14 x0 x2 x1 x3 x4, k0_pay15 x0 x2 x1 x3 x4, k0_pay16 x0 x2 x1 x3 x4, k0_pay17 x0 x2 x1 x3 x4, Scalar.ofBits .f32 0x3DD814ED#32⟩))
      ⊢ wp frame (wpE (defs₀ (F := F)) Variants.none c none) E (k0_part3 i arg2 harg2 arg3 harg3 arg4 harg4 arg5 harg5 arg6 harg6 arg7 harg7 arg8 harg8 arg9 harg9 arg10 harg10) K := by
  rw [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  rw [View.readAt_full arg2.view f0 (off := ![0, 0]) inb_S512x16384_S512x16384_0_0,
    View.readAt_full arg3.view f1 (off := ![0, 0]) inb_S512x1_S512x1_0_0,
    View.readAt_full arg4.view f2 (off := ![0, 0]) inb_S16384x512_S16384x512_0_0,
    View.readAt_full arg5.view f3 (off := ![0, 0]) inb_S1x512_S1x512_0_0,
    View.readAt_full arg6.view f4 (off := ![0, 0]) inb_S1x512_S1x512_0_0]
  unfold run_part3.sl.cst_17
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists f4; isplitr; · ipureintro; rfl
  iexact H4

/-- The loop's trips number thirteen. -/
theorem trips_eq : k0_t1_loop.trips = 13 := by decide

/-- The piece trip `k` of the loop writes: the codes of column block `k`. -/
noncomputable abbrev codePiece (i : grid0.Coords) (k0_h3 : k0_cond3 i = 1#1) (v159 : FVec F S512x1 .f32) (t : Fin 13 → Vec F S1x512x512 .f32)
    (k : Fin k0_t1_loop.trips) : View.Piece (Elt F) S512x6656 .fp8e4m3 :=
  ⟨Rect.unit (s := S512x6656) (k0_off3 k) S512x512.size (k0_off3_inb i k k0_h3), k0_pay6 v159 (t ⟨k.val, trips_eq ▸ k.isLt⟩)⟩

/-- What one trip of the loop writes: one piece, the codes of its column block. -/
theorem trip_pieces (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (k : Fin k0_t1_loop.trips) :
    tripL_k0_t1 (F := F) Variants.none c none i arg2 harg2 arg3 harg3 arg4 harg4 arg5 harg5 arg6 harg6 arg7 harg7 arg8 harg8 arg9 harg9 arg10 harg10 k0_h3 v159 X9 k
      = [codePiece i k0_h3 v159 (tileAt (arg9.view.read (Elt F) X9)) k] := by
  unfold tripL_k0_t1 trip_k0_t1
  unfold codePiece tileAt
  rw [← View.readAt_unit arg9.view X9 (k0_off2_inb i k k0_h3) (k0_off2_eq k)]

/-- The pieces before trip `n` are the pieces of the trips before it. -/
theorem mem_pieces (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (p : View.Piece (Elt F) S512x6656 .fp8e4m3) :
    ∀ n : ℕ, n ≤ k0_t1_loop.trips →
      (p ∈ pb_k0_t1 (F := F) Variants.none c none i arg2 harg2 arg3 harg3 arg4 harg4 arg5 harg5 arg6 harg6 arg7 harg7 arg8 harg8 arg9 harg9 arg10 harg10 k0_h3 v159 X9 n
        ↔ ∃ k : Fin k0_t1_loop.trips, k.val < n ∧ p = codePiece i k0_h3 v159 (tileAt (arg9.view.read (Elt F) X9)) k)
  | 0, _ => by
    rw [pb_k0_t1.eq_1]
    exact ⟨fun h => absurd h List.not_mem_nil, fun ⟨k, hk, _⟩ => absurd hk (Nat.not_lt_zero _)⟩
  | n + 1, hn => by
    have hs := pb_k0_t1_succ (F := F) Variants.none c none i arg2 harg2 arg3 harg3 arg4 harg4 arg5 harg5 arg6 harg6 arg7 harg7 arg8 harg8 arg9 harg9 arg10 harg10 k0_h3 v159 X9 ⟨n, hn⟩
    rw [trip_pieces] at hs
    rw [show n + 1 = (⟨n, hn⟩ : Fin k0_t1_loop.trips).val + 1 from rfl, hs, List.mem_append, List.mem_singleton,
      mem_pieces c i arg2 harg2 arg3 harg3 arg4 harg4 arg5 harg5 arg6 harg6 arg7 harg7 arg8 harg8 arg9 harg9 arg10 harg10 k0_h3 v159 X9 p n (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact Or.inr ⟨k, hk, h⟩
      · exact Or.inl (by rw [h]; exact congrArg _ (Fin.ext hk))

/-- What the whole loop leaves in the codes' window: the codes, whatever the window held. -/
theorem loop_codes (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (f5 : BufTy.Contents (Elt F) arg7.view.ty) :
    arg7.view.read (Elt F) (arg7.view.writes (Elt F) f5 (pb_k0_t1 (F := F) Variants.none c none i arg2 harg2 arg3 harg3 arg4 harg4 arg5 harg5 arg6 harg6 arg7 harg7 arg8 harg8 arg9 harg9 arg10 harg10 k0_h3 v159 X9 k0_t1_loop.trips))
      = codesOf v159 (tileAt (arg9.view.read (Elt F) X9)) := by
  funext y
  have hy1 : (y 1).val < 6656 := (y 1).isLt
  refine View.read_writes_apply_of_pieces arg7.view f5 (codesOf v159 (tileAt (arg9.view.read (Elt F) X9))) _ ?_ y ?_
  · intro p hp x
    obtain ⟨k, hk, rfl⟩ := (mem_pieces c i arg2 harg2 arg3 harg3 arg4 harg4 arg5 harg5 arg6 harg6 arg7 harg7 arg8 harg8 arg9 harg9 arg10 harg10 k0_h3 v159 X9 p _ le_rfl).mp hp
    have hk13 : k.val < 13 := trips_eq ▸ k.isLt
    have hx1 : (x 1).val < 512 := (x 1).isLt
    have h0 : (((Rect.unit (s := S512x6656) (k0_off3 k) S512x512.size (k0_off3_inb i k k0_h3)).emb x) 0).val = (x 0).val := by
      show k0_off3 k 0 + 1 * (x 0).val = (x 0).val
      rw [k0_off3_eq]
      show 0 + 1 * (x 0).val = (x 0).val
      omega
    have h1 : (((Rect.unit (s := S512x6656) (k0_off3 k) S512x512.size (k0_off3_inb i k k0_h3)).emb x) 1).val = 512 * k.val + (x 1).val := by
      show k0_off3 k 1 + 1 * (x 1).val = _
      rw [k0_off3_eq]
      show 512 * k.val + 1 * (x 1).val = _
      omega
    show k0_pay6 v159 _ x = k0_pay6 v159 (tileAt _ (blockOf _)) (inBlock _)
    have eb : blockOf ((Rect.unit (s := S512x6656) (k0_off3 k) S512x512.size (k0_off3_inb i k k0_h3)).emb x) = ⟨k.val, hk13⟩ :=
      Fin.ext (by
        show (((Rect.unit (s := S512x6656) (k0_off3 k) S512x512.size (k0_off3_inb i k k0_h3)).emb x) 1).val / 512 = k.val
        rw [h1]; omega)
    have ei : inBlock ((Rect.unit (s := S512x6656) (k0_off3 k) S512x512.size (k0_off3_inb i k k0_h3)).emb x) = x := by
      funext a
      match a with
      | ⟨0, _⟩ => exact Fin.ext h0
      | ⟨1, _⟩ =>
        refine Fin.ext ?_
        show (((Rect.unit (s := S512x6656) (k0_off3 k) S512x512.size (k0_off3_inb i k k0_h3)).emb x) 1).val % 512 = (x 1).val
        rw [h1]; omega
    rw [eb, ei]
  · have hb : (y 1).val / 512 < k0_t1_loop.trips := by rw [trips_eq]; omega
    refine ⟨codePiece i k0_h3 v159 (tileAt (arg9.view.read (Elt F) X9)) ⟨(y 1).val / 512, hb⟩,
      (mem_pieces c i arg2 harg2 arg3 harg3 arg4 harg4 arg5 harg5 arg6 harg6 arg7 harg7 arg8 harg8 arg9 harg9 arg10 harg10 k0_h3 v159 X9 _ _ le_rfl).mpr ⟨_, hb, rfl⟩, ?_⟩
    rw [Rect.mem_set_unit]
    rw [k0_off3_eq]
    intro a
    match a with
    | ⟨0, _⟩ => exact ⟨Nat.zero_le _, by have h : (y 0).val < 512 := (y 0).isLt; show (y 0).val < 0 + 512; omega⟩
    | ⟨1, _⟩ => exact ⟨by show 512 * ((y 1).val / 512) ≤ (y 1).val; omega, by show (y 1).val < 512 * ((y 1).val / 512) + 512; omega⟩

end Cert.Kernel.Gen

end
-- ==== Proof.Kernel.Body.lean ====
/- The kernel body run at one grid point, in the three cases of its column block, over the values of its buffers. -/
module

public import proofs.«01_k».proof.Proof.Kernel.Parts

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first column block of a row block: the tile goes into the scratch of activations,
    its row maxima into the scratch of maxima; the results are untouched. -/
theorem bodyA (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : cond0_0 i) (hc1 : ¬cond0_1 i) (hc2 : ¬cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (putTile i (gTile x0 x1 x2 x3 x4) s0) ∗ owns (c : Thread nD τ) arg10 fullShare (firstMax x0 x1 x2 x3 x4)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_pos hc0, dif_neg hc1, dif_neg hc2]
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  sl_step
  iapply Hk
  isplitl [H0]; · iexact H0
  isplitl [H1]; · iexact H1
  isplitl [H2]; · iexact H2
  isplitl [H3]; · iexact H3
  isplitl [H4]; · iexact H4
  isplitl [H5]
  · iexists f7; isplitr; · ipureintro; rfl
    iexact H5
  isplitl [H6]
  · iexists f8; isplitr; · ipureintro; rfl
    iexact H6
  isplitl [HS0]
  · iexists _; isplitr
    swap
    · iexact HS0
    ipureintro
    exact View.read_writes_cons_put arg9.view f9 (k0_off1_inb i) _ [] (k0_off1_eq i)
  iexists _; isplitr
  swap
  · iexact HS1
  ipureintro
  exact (View.read_writes_full arg10.view f10 (off := ![0, 0]) inb_S512x1_S512x1_0_0 _ [])

/-- The body at a point of a middle column block: the tile goes into the scratch of activations, the running
    maxima are continued; the results are untouched. -/
theorem bodyB (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : ¬cond0_0 i) (hc1 : cond0_1 i) (hc2 : ¬cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (putTile i (gTile x0 x1 x2 x3 x4) s0) ∗ owns (c : Thread nD τ) arg10 fullShare (nextMax x0 x1 x2 x3 x4 s1)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_neg hc0, dif_pos hc1, dif_neg hc2]
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  sl_step
  iapply Hk
  isplitl [H0]; · iexact H0
  isplitl [H1]; · iexact H1
  isplitl [H2]; · iexact H2
  isplitl [H3]; · iexact H3
  isplitl [H4]; · iexact H4
  isplitl [H5]
  · iexists f7; isplitr; · ipureintro; rfl
    iexact H5
  isplitl [H6]
  · iexists f8; isplitr; · ipureintro; rfl
    iexact H6
  isplitl [HS0]
  · iexists _; isplitr
    swap
    · iexact HS0
    ipureintro
    exact View.read_writes_cons_put arg9.view f9 (k0_off1_inb i) _ [] (k0_off1_eq i)
  iexists _; isplitr
  swap
  · iexact HS1
  ipureintro
  exact (View.read_writes_full arg10.view f10 (off := ![0, 0]) inb_S512x1_S512x1_0_0 _ []).trans
    (congrArg (nextMax x0 x1 x2 x3 x4) (View.readAt_full arg10.view f10 (off := ![0, 0]) inb_S512x1_S512x1_0_0))

/-- The body at a point of the last column block: as at a middle one, and the results are written, the scales
    from the final maxima and the codes from the thirteen tiles. -/
theorem bodyC (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : ¬cond0_0 i) (hc1 : cond0_1 i) (hc2 : cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOf (invOf (nextMax x0 x1 x2 x3 x4 s1)) (tileAt (putTile i (gTile x0 x1 x2 x3 x4) s0))) ∗ owns (c : Thread nD τ) arg8 fullShare (scaleOf (nextMax x0 x1 x2 x3 x4 s1)) ∗ owns (c : Thread nD τ) arg9 fullShare (putTile i (gTile x0 x1 x2 x3 x4) s0) ∗ owns (c : Thread nD τ) arg10 fullShare (nextMax x0 x1 x2 x3 x4 s1)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_neg hc0, dif_pos hc1, dif_pos hc2]
  generalize hT : ((wp frame (wpE (defs₀ (F := F)) Variants.none c none) E (k0_part1 i arg2 harg2 arg3 harg3 arg4 harg4 arg5 harg5 arg6 harg6 arg7 harg7 arg8 harg8 arg9 harg9 arg10 harg10)) _ : sProp 𝕄) = T
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  subst hT
  generalize hX9 : arg9.view.writes (Elt F) f9 _ = X9
  generalize hX10 : arg10.view.writes (Elt F) f10 _ = X10
  have e9 : arg9.view.read (Elt F) X9 = putTile i (gTile x0 x1 x2 x3 x4) (arg9.view.read (Elt F) f9) := by
    rw [← hX9]
    exact View.read_writes_cons_put arg9.view f9 (k0_off1_inb i) _ [] (k0_off1_eq i)
  have e10 : arg10.view.read (Elt F) X10 = nextMax x0 x1 x2 x3 x4 (arg10.view.read (Elt F) f10) := by
    rw [← hX10]
    exact (View.read_writes_full arg10.view f10 (off := ![0, 0]) inb_S512x1_S512x1_0_0 _ []).trans
      (congrArg (nextMax x0 x1 x2 x3 x4) (View.readAt_full arg10.view f10 (off := ![0, 0]) inb_S512x1_S512x1_0_0))
  sl_step
  iapply (run_part1 c i arg2 harg2 arg3 harg3 arg4 harg4 arg5 harg5 arg6 harg6 arg7 harg7 arg8 harg8 arg9 harg9 arg10 harg10 X10)
  isplitl [HS1]; · iexact HS1
  iintro HS1
  iapply (run_part2 c i arg2 harg2 arg3 harg3 arg4 harg4 arg5 harg5 arg6 harg6 arg7 harg7 arg8 harg8 arg9 harg9 arg10 harg10 _ _ _ _ f8)
  isplitl [H6]; · iexact H6
  iintro H6
  iapply (run_loop c i arg2 harg2 arg3 harg3 arg4 harg4 arg5 harg5 arg6 harg6 arg7 harg7 arg8 harg8 arg9 harg9 arg10 harg10 hc2 _ X9 f7)
  isplitl [HS0]; · iexact HS0
  isplitl [H5]; · iexact H5
  iintro ⟨HS0, H5⟩
  sl_step
  iapply Hk
  isplitl [H0]; · iexact H0
  isplitl [H1]; · iexact H1
  isplitl [H2]; · iexact H2
  isplitl [H3]; · iexact H3
  isplitl [H4]; · iexact H4
  have em : rowMax arg10 X10 = (nextMax x0 x1 x2 x3 x4 (arg10.view.read (Elt F) f10)) :=
    (View.readAt_full arg10.view X10 (off := ![0, 0]) inb_S512x1_S512x1_0_0).trans e10
  isplitl [H5]
  · iexists _; isplitr
    swap
    · iexact H5
    ipureintro
    rw [loop_codes, em]
    exact congrArg (fun t => codesOf (invOf (nextMax x0 x1 x2 x3 x4 (arg10.view.read (Elt F) f10))) (tileAt t)) e9
  isplitl [H6]
  · iexists _; isplitr
    swap
    · iexact H6
    ipureintro
    rw [em]
    exact View.read_writes_full arg8.view f8 (off := ![0, 0]) inb_S512x1_S512x1_0_0 _ []
  isplitl [HS0]
  · iexists _; isplitr
    swap
    · iexact HS0
    ipureintro; exact e9
  iexists _; isplitr
  swap
  · iexact HS1
  ipureintro; exact e10

end Cert.Kernel.Gen

end
-- ==== Proof.Kernel.Values.lean ====
/- What the kernel leaves at each grid point, as functions of the point: the tiles of activations, the running row
   maxima, the codes and the scales. -/
module

public import proofs.«01_k».proof.Proof.Kernel.Payloads

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile of activations computed at grid point `t`. -/
noncomputable def gAt (c : Dev nD) (t : Fin cfg0.N) : FVec F S1x512x512 .f32 :=
  gTile (iblk m c 0 t) (iblk m c 1 t) (iblk m c 2 t) (iblk m c 3 t) (iblk m c 4 t)

/-- The row maxima after point `n`: over the tiles of its row block up to it. -/
noncomputable def maxAt (c : Dev nD) : (n : ℕ) → n < cfg0.N → FVec F S512x1 .f32
  | 0, h => firstMax (iblk m c 0 ⟨0, h⟩) (iblk m c 1 ⟨0, h⟩) (iblk m c 2 ⟨0, h⟩) (iblk m c 3 ⟨0, h⟩) (iblk m c 4 ⟨0, h⟩)
  | n + 1, h =>
    if (n + 1) % 13 = 0 then firstMax (iblk m c 0 ⟨n + 1, h⟩) (iblk m c 1 ⟨n + 1, h⟩) (iblk m c 2 ⟨n + 1, h⟩) (iblk m c 3 ⟨n + 1, h⟩) (iblk m c 4 ⟨n + 1, h⟩)
    else nextMax (iblk m c 0 ⟨n + 1, h⟩) (iblk m c 1 ⟨n + 1, h⟩) (iblk m c 2 ⟨n + 1, h⟩) (iblk m c 3 ⟨n + 1, h⟩) (iblk m c 4 ⟨n + 1, h⟩) (maxAt c n (Nat.lt_of_succ_lt h))

/-- At a first column block the maxima are the tile's own. -/
theorem maxAt_first (c : Dev nD) (t : Fin cfg0.N) (h0 : t.val % 13 = 0) :
    maxAt m c t.val t.isLt = firstMax (iblk m c 0 t) (iblk m c 1 t) (iblk m c 2 t) (iblk m c 3 t) (iblk m c 4 t) := by
  obtain ⟨n, hn⟩ := t
  cases n with
  | zero => rfl
  | succ n => exact if_pos h0

/-- At a later column block the maxima continue those of the point before. -/
theorem maxAt_next (c : Dev nD) (t : Fin cfg0.N) (h0 : ¬t.val % 13 = 0) :
    maxAt m c t.val t.isLt = nextMax (iblk m c 0 t) (iblk m c 1 t) (iblk m c 2 t) (iblk m c 3 t) (iblk m c 4 t) (maxAt m c (t.val - 1) (lt_of_le_of_lt (Nat.sub_le _ _) t.isLt)) := by
  obtain ⟨n, hn⟩ := t
  cases n with
  | zero => exact absurd (Nat.zero_mod 13) h0
  | succ n => exact if_neg h0

/-- The grid has 156 points. -/
theorem lt156 (t : Fin cfg0.N) : t.val < 156 := lt_of_lt_of_eq t.isLt (show cfg0.N = 156 from N_0)

/-- The point of column block `k` in the row block of point `n`. -/
def pointOf (n : ℕ) (hn : n < cfg0.N) (k : Fin 13) : Fin cfg0.N :=
  ⟨13 * (n / 13) + k.val, by have h := lt156 ⟨n, hn⟩; have hk := k.isLt; have e : cfg0.N = 156 := N_0; simp only at h; omega⟩

/-- The scratch of activations after point `n` holds the tiles of its row block up to it. -/
def TilesOK (c : Dev nD) (n : ℕ) (hn : n < cfg0.N) (d : Vec F S13x512x512 .f32) : Prop :=
  ∀ k : Fin 13, k.val ≤ n % 13 → tileAt d k = gAt m c (pointOf n hn k)

/-- The column block of a point. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- A first column block starts the tiles. -/
theorem tiles_first (c : Dev nD) (t : Fin cfg0.N) (h0 : t.val % 13 = 0) (s : Vec F S13x512x512 .f32) :
    TilesOK m c t.val t.isLt (putTile (grid0.coords t) (gAt m c t) s) := by
  intro k hk
  rw [tileAt_putTile_same _ _ _ k (by rw [coord1]; omega)]
  exact congrArg (gAt m c) (Fin.ext (by show t.val = 13 * (t.val / 13) + k.val; omega))

/-- A later column block adds its tile. -/
theorem tiles_next (c : Dev nD) (t : Fin cfg0.N) (h0 : ¬t.val % 13 = 0) (s : Vec F S13x512x512 .f32)
    (hs : TilesOK m c (t.val - 1) (lt_of_le_of_lt (Nat.sub_le _ _) t.isLt) s) :
    TilesOK m c t.val t.isLt (putTile (grid0.coords t) (gAt m c t) s) := by
  intro k hk
  by_cases e : k.val = t.val % 13
  · rw [tileAt_putTile_same _ _ _ k (by rw [coord1]; exact e)]
    exact congrArg (gAt m c) (Fin.ext (by show t.val = 13 * (t.val / 13) + k.val; omega))
  · rw [tileAt_putTile_other _ _ _ k (by rw [coord1]; exact e), hs k (by omega)]
    exact congrArg (gAt m c) (Fin.ext (by show 13 * ((t.val - 1) / 13) + k.val = 13 * (t.val / 13) + k.val; omega))

/-- At a last column block the scratch holds all the tiles. -/
theorem tiles_last (c : Dev nD) (t : Fin cfg0.N) (h2 : t.val % 13 = 12) (s : Vec F S13x512x512 .f32)
    (hs : TilesOK m c t.val t.isLt s) : tileAt s = fun k => gAt m c (pointOf t.val t.isLt k) :=
  funext fun k => hs k (by have := k.isLt; omega)

/-- The codes of the row block of point `t`. -/
noncomputable def codesAt (c : Dev nD) (t : Fin cfg0.N) : Vec F S512x6656 .fp8e4m3 :=
  codesOf (invOf (maxAt m c t.val t.isLt)) (fun k => gAt m c (pointOf t.val t.isLt k))

/-- The scales of the row block of point `t`. -/
noncomputable def scaleAt (c : Dev nD) (t : Fin cfg0.N) : Vec F S512x1 .f32 :=
  scaleOf (maxAt m c t.val t.isLt)

end Cert.Kernel.Gen

end
-- ==== Proof.Kernel.Frame.lean ====
/- The frame of the kernel: the body obligation at every grid point, the run, and the arguments unchanged. -/
module

public import proofs.«01_k».proof.Proof.Kernel.Body
public import proofs.«01_k».proof.Proof.Kernel.Values
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What holds between points: before the first, the scratches at anything; after point `n`, the tiles of its row
    block so far in the one scratch and the row maxima so far in the other. -/
def PhiS (c : Dev nD) : (n : ℕ) → n ≤ cfg0.N → sProp 𝕄
  | 0, _ => Pipeline.ΦA spec0 c
  | n + 1, hn => iprop(iprop((∃ d, ⌜TilesOK m c n hn d⌝ ∗ owns (c : Thread nD τ) scM0_0 fullShare d) ∗ owns (c : Thread nD τ) scM0_1 fullShare (maxAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn
    = iprop(iprop((∃ d, ⌜TilesOK m c n hn d⌝ ∗ owns (c : Thread nD τ) scM0_0 fullShare d) ∗ owns (c : Thread nD τ) scM0_1 fullShare (maxAt m c n hn)) ∗ (∃ r, prngReg c r)) := rfl
theorem PhiS_pos (c : Dev nD) (n : ℕ) (h : n ≤ cfg0.N) (hz : n ≠ 0) : PhiS m c n h
    = iprop(iprop((∃ d, ⌜TilesOK m c (n - 1) (lt_of_lt_of_le (Nat.sub_lt (Nat.pos_of_ne_zero hz) Nat.one_pos) h) d⌝ ∗ owns (c : Thread nD τ) scM0_0 fullShare d) ∗ owns (c : Thread nD τ) scM0_1 fullShare (maxAt m c (n - 1) (lt_of_lt_of_le (Nat.sub_lt (Nat.pos_of_ne_zero hz) Nat.one_pos) h))) ∗ (∃ r, prngReg c r)) := by
  cases n with
  | zero => exact absurd rfl hz
  | succ n => rfl

/-- The proof data of the pipeline: the arrays as the launch finds them, each input's block left in place, the
    results of a row block as computed at its last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => scaleAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scaleAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' buffers hold their blocks, the point's column block says which case it is, and
    the invariant is handed on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  by_cases h0 : t.val % 13 = 0
  · have h1 : ¬1 ≤ t.val % 13 := by omega
    have h2 : ¬t.val % 13 = 12 := by omega
    rw [leaves0 m c t, leaves1 m c t, leaves2 m c t, leaves3 m c t, leaves4 m c t]
    rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
    rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
    by_cases hz : t.val = 0
    · rw [PhiS_castSucc m c t, PhiS_zero m c _ _ hz, PhiA0_eq]
      rw [maxAt_first m c t h0]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_first m c t h0 _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      rw [maxAt_first m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_first m c t h0 _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have h1 : 1 ≤ t.val % 13 := by omega
    have hz : t.val ≠ 0 := fun h => h0 (by rw [h])
    by_cases h2 : t.val % 13 = 12
    · rw [leaves0 m c t, leaves1 m c t, leaves2 m c t, leaves3 m c t, leaves4 m c t]
      rw [show (dats m 0 c).leavesExact 5 t = owns (c : Thread nD τ) (ms0_5 t) fullShare ((dats m 0 c).after 5 t) from by unfold Dat.leavesExact; rw [liveAt0_5_C t (fun h => h0 ((hcond0_0 t).mp h)) ((hcond0_1 t).mpr h1) ((hcond0_2 t).mpr h2)], after0_5]
      rw [show (dats m 0 c).leavesExact 6 t = owns (c : Thread nD τ) (ms0_6 t) fullShare ((dats m 0 c).after 6 t) from by unfold Dat.leavesExact; rw [liveAt0_6_C t (fun h => h0 ((hcond0_0 t).mp h)) ((hcond0_1 t).mpr h1) ((hcond0_2 t).mpr h2)], after0_6]
      rw [PhiS_castSucc m c t, PhiS_pos m c _ _ hz]
      unfold codesAt scaleAt
      rw [maxAt_next m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyC c (grid0.coords t) _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_next m c t h0 _ he0
          iexact HS1
        iexact Hg
      isplitl [Ho]; · iexact Ho
      isplitl [H0]; · iexact H0
      isplitl [H1]; · iexact H1
      isplitl [H2]; · iexact H2
      isplitl [H3]; · iexact H3
      isplitl [H4]; · iexact H4
      rw [show tileAt (putTile (grid0.coords t) (gTile (iblk m c 0 t) (iblk m c 1 t) (iblk m c 2 t) (iblk m c 3 t) (iblk m c 4 t)) e0) = (fun k => gAt m c (pointOf t.val t.isLt k)) from tiles_last m c t h2 _ (tiles_next m c t h0 _ he0)]
      isplitl [H5]; · iexact H5
      iexact H6
    · rw [leaves0 m c t, leaves1 m c t, leaves2 m c t, leaves3 m c t, leaves4 m c t]
      rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
      rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
      rw [PhiS_castSucc m c t, PhiS_pos m c _ _ hz]
      rw [maxAt_next m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyB c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_next m c t h0 _ he0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's form back: what the scratches hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%d, -, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 156 := N_0; omega)

/-! ## The run and the frame -/

set_option backward.isDefEq.respectTransparency.types false in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates, and every final state has every array of the pipeline at what the proof data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program terminates, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdeal.Conds.lean ====
/- Which branch of the kernel body runs at which grid point: the first column block of a row block starts the
   running maximum, the later ones continue it, the last one (column block 12) writes the results. Also where the
   two result windows are idle, and the staging memrefs of a point under names of their own. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 13) — by arithmetic of the point. -/
theorem hcond0_0 : ∀ t : Fin cfg0.N, cond0_0 (grid0.coords t) ↔ t.val % 13 = 0 :=
  (fun t => by
    have ht : t.val < 156 := Nat.lt_of_lt_of_eq t.isLt N_0
    have e0 : (grid0.coords t 0).val = t.val / 13 % 12 := Pipeline.Grid.coords_val t 0 (by decide) rfl
    have e1 : (grid0.coords t 1).val = t.val / 1 % 13 := Pipeline.Grid.coords_val t 1 (by decide) rfl
    simp only [cond0_0, e0, e1]
    word_cmp
   : ∀ t : Fin grid0.N, cond0_0 (grid0.coords t) ↔ t.val % 13 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 13 :=
  (by decide +kernel : ∀ t : Fin grid0.N, cond0_1 (grid0.coords t) ↔ 1 ≤ t.val % 13)

/-- The condition of the body's `scf.if` 2 (`k0_h3`), from the grid coordinates (the skeleton's scalar
    chain substituted). -/
abbrev cond0_2 (i : grid0.Coords) : Prop := k0_cond3 i = 1#1
/-- It holds at the points ≡ 12 (mod 13) — by arithmetic of the point. -/
theorem hcond0_2 : ∀ t : Fin cfg0.N, cond0_2 (grid0.coords t) ↔ t.val % 13 = 12 :=
  (fun t => by
    have ht : t.val < 156 := Nat.lt_of_lt_of_eq t.isLt N_0
    have e0 : (grid0.coords t 0).val = t.val / 13 % 12 := Pipeline.Grid.coords_val t 0 (by decide) rfl
    have e1 : (grid0.coords t 1).val = t.val / 1 % 13 := Pipeline.Grid.coords_val t 1 (by decide) rfl
    simp only [cond0_2, k0_cond3, e0, e1]
    word_cmp
   : ∀ t : Fin grid0.N, cond0_2 (grid0.coords t) ↔ t.val % 13 = 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → cond0_1 (grid0.coords t) → ¬cond0_2 (grid0.coords t) → cfg0.idle 5 (grid0.coords t) = true := by decide +kernel
/-- At the points of case B the pipeline does not write output 5's block back. -/
theorem noFlush0_5_B : ∀ t : Fin cfg0.N, ¬cond0_0 (grid0.coords t) → cond0_1 (grid0.coords t) → ¬cond0_2 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cond0_2 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cond0_2 (grid0.coords t) → cfg0.idle 6 (grid0.coords t) = false := by decide +kernel

/-! ## The kernel body on any staging memrefs: a subtype the run finds -/

/-- One staging buffer of an output window, through which its contents are stated. -/
abbrev VO0_5 : View sig .tc .vmem S512x6656 .fp8e4m3 := (Memref.whole cc0_stg5_0 : Memref sig .tc .vmem S512x6656 .fp8e4m3).view
/-- One staging buffer of an output window, through which its contents are stated. -/
abbrev VO0_6 : View sig .tc .vmem S512x1 .f32 := (Memref.whole cc0_stg6_0 : Memref sig .tc .vmem S512x1 .f32).view
/-- Each window's current staging memref at point `t`, spelled as the pipeline passes it (`bodyAt0`), and its wholeness. -/
abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x6656 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S13x512x512 .f32 := Memref.whole cc0_scratch0
abbrev scM0_1 : Memref sig .tc .vmem S512x1 .f32 := Memref.whole cc0_scratch1
/-- The two scratches the kernel carries between points (the activations of the row block, the running row
    maximum), as views: what they hold is stated through them. -/
abbrev VS0_0 : View sig .tc .vmem S13x512x512 .f32 := scM0_0.view
abbrev VS0_1 : View sig .tc .vmem S512x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KernelIdeal.Finish.lean ====
/- The last branch of the kernel body, run on its own: the scale of each row and the codes of the row block. -/
module

public import proofs.«01_k».proof.Proof.KernelIdeal.Conds

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running row maximum as the last branch loads it from its scratch. -/
abbrev rowMax (arg10 : Memref sig .tc .vmem S512x1 .f32) (X10 : BufTy.Contents (Elt F) arg10.view.ty) : Vec F S512x1 .f32 :=
  arg10.view.readAt (Elt F) (Rect.unit (s := S512x1) ![0, 0] S512x1.size inb_S512x1_S512x1_0_0).toLoadRect X10

/-- The first part of the last branch: it loads the row maximum and computes from it. -/
theorem run_part1 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (X10 : BufTy.Contents (Elt F) arg10.view.ty) (E : Set ℕ) (K : (Σ' (v77 : FVec F S512x1 .f32) (v113 : IVec S512x1 32) (v115 : IVec S512x1 32), FVec F S512x1 .f32) → sProp 𝕄) :
    iprop((arg10.view.loc (c : Thread nD τ) ↦[arg10.view.set]{fullShare} X10) ∗ ((arg10.view.loc (c : Thread nD τ) ↦[arg10.view.set]{fullShare} X10) -∗ K ⟨k0_pay7 (rowMax arg10 X10), k0_pay8 (rowMax arg10 X10), k0_pay9 (rowMax arg10 X10), k0_pay10 (rowMax arg10 X10)⟩))
      ⊢ wp frame (wpE (defs₀ (F := F)) Variants.none c none) E (k0_part1 i arg2 harg2 arg3 harg3 arg4 harg4 arg5 harg5 arg6 harg6 arg7 harg7 arg8 harg8 arg9 harg9 arg10 harg10) K := by
  rw [k0_part1_eq_skeleton]; unfold k0_part1_skel
  iintro ⟨HS1, Hk⟩
  sl_exec
  sl_step
  iapply Hk
  iexact HS1

/-- The second part of the last branch: it stores the scales and returns their inverses. -/
theorem run_part2 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (v77 : FVec F S512x1 .f32) (v113 : IVec S512x1 32) (v115 : IVec S512x1 32) (v118 : FVec F S512x1 .f32)
    (f6 : BufTy.Contents (Elt F) arg8.view.ty) (E : Set ℕ) (K : FVec F S512x1 .f32 → sProp 𝕄) :
    iprop((arg8.view.loc (c : Thread nD τ) ↦[arg8.view.set]{fullShare} f6) ∗ ((arg8.view.loc (c : Thread nD τ) ↦[arg8.view.set]{fullShare} arg8.view.writes (Elt F) f6 [⟨(Rect.unit (s := S512x1) ![0, 0] S512x1.size inb_S512x1_S512x1_0_0), k0_pay12 v77 v113 v115 v118⟩]) -∗ K (k0_pay13 v77 v113 v115 v118)))
      ⊢ wp frame (wpE (defs₀ (F := F)) Variants.none c none) E (k0_part2 i arg2 harg2 arg3 harg3 arg4 harg4 arg5 harg5 arg6 harg6 arg7 harg7 arg8 harg8 arg9 harg9 arg10 harg10 v77 v113 v115 v118) K := by
  rw [k0_part2_eq_skeleton]; unfold k0_part2_skel
  iintro ⟨H6, Hk⟩
  sl_exec
  sl_step
  iapply Hk
  iexact H6

/-- The loop of the last branch: one trip per column block, each writing that block's codes. -/
theorem run_loop (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty)
    (f5 : BufTy.Contents (Elt F) arg7.view.ty) (E : Set ℕ) (K : Unit → sProp 𝕄) :
    iprop((arg9.view.loc (c : Thread nD τ) ↦[arg9.view.set]{fullShare} X9) ∗ (arg7.view.loc (c : Thread nD τ) ↦[arg7.view.set]{fullShare} f5) ∗ (iprop((arg9.view.loc (c : Thread nD τ) ↦[arg9.view.set]{fullShare} X9) ∗ (arg7.view.loc (c : Thread nD τ) ↦[arg7.view.set]{fullShare} arg7.view.writes (Elt F) f5 (pb_k0_t1 (F := F) Variants.none c none i arg2 harg2 arg3 harg3 arg4 harg4 arg5 harg5 arg6 harg6 arg7 harg7 arg8 harg8 arg9 harg9 arg10 harg10 k0_h3 v159 X9 k0_t1_loop.trips))) -∗ K ⟨⟩))
      ⊢ wp frame (wpE (defs₀ (F := F)) Variants.none c none) E (Scf.Loop.for k0_t1_loop (k0_t1_ok i k0_h3) ⟨⟩ (k0_t1_body i arg2 harg2 arg3 harg3 arg4 harg4 arg5 harg5 arg6 harg6 arg7 harg7 arg8 harg8 arg9 harg9 arg10 harg10 k0_h3 v159)) K := by
  iintro ⟨HS0, H5, Hk⟩
  sl_exec
  iapply Hk
  isplitl [HS0]; · iexact HS0
  iexact H5

end Cert.KernelIdeal.Gen

end
-- ==== Proof.KernelIdeal.Payloads.lean ====
/- The values the kernel body computes at one grid point, as functions of the blocks it reads. -/
module

public import proofs.«01_k».proof.Proof.KernelIdeal.Conds
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The activations of one row block and one column block, as stored: a tile of the scratch. -/
noncomputable def gTile (x0 : Vec F S512x16384 .fp8e4m3) (x1 : Vec F S512x1 .f32) (x2 : Vec F S16384x512 .fp8e4m3) (x3 : Vec F S1x512 .f32) (x4 : Vec F S1x512 .bf16) : FVec F S1x512x512 .f32 :=
  k0_pay2 (k0_pay14 x0 x2 x1 x3 x4) (k0_pay15 x0 x2 x1 x3 x4) (k0_pay16 x0 x2 x1 x3 x4) (k0_pay17 x0 x2 x1 x3 x4) (Scalar.ofBits .f32 0x3DD814ED#32)

/-- The row maxima of the magnitudes of one tile. -/
noncomputable def firstMax (x0 : Vec F S512x16384 .fp8e4m3) (x1 : Vec F S512x1 .f32) (x2 : Vec F S16384x512 .fp8e4m3) (x3 : Vec F S1x512 .f32) (x4 : Vec F S1x512 .bf16) : FVec F S512x1 .f32 :=
  k0_pay4 (k0_pay14 x0 x2 x1 x3 x4) (k0_pay15 x0 x2 x1 x3 x4) (k0_pay16 x0 x2 x1 x3 x4) (k0_pay17 x0 x2 x1 x3 x4) (Scalar.ofBits .f32 0x3DD814ED#32)

/-- The running row maxima `a` continued over one more tile. -/
noncomputable def nextMax (x0 : Vec F S512x16384 .fp8e4m3) (x1 : Vec F S512x1 .f32) (x2 : Vec F S16384x512 .fp8e4m3) (x3 : Vec F S1x512 .f32) (x4 : Vec F S1x512 .bf16) (a : Vec F S512x1 .f32) : FVec F S512x1 .f32 :=
  k0_pay5 (k0_pay14 x0 x2 x1 x3 x4) (k0_pay15 x0 x2 x1 x3 x4) (k0_pay16 x0 x2 x1 x3 x4) (k0_pay17 x0 x2 x1 x3 x4) (Scalar.ofBits .f32 0x3DD814ED#32) a

/-- The scales of the rows, from their maxima. -/
noncomputable def scaleOf (a : Vec F S512x1 .f32) : FVec F S512x1 .f32 :=
  k0_pay12 (k0_pay7 a) (k0_pay8 a) (k0_pay9 a) (k0_pay10 a)

/-- The inverse scales of the rows, from their maxima. -/
noncomputable def invOf (a : Vec F S512x1 .f32) : FVec F S512x1 .f32 :=
  k0_pay13 (k0_pay7 a) (k0_pay8 a) (k0_pay9 a) (k0_pay10 a)

/-- The scratch of activations with one tile put at column block `i 1`. -/
noncomputable def putTile (i : grid0.Coords) (w : FVec F S1x512x512 .f32) (s : Vec F S13x512x512 .f32) : Vec F S13x512x512 .f32 :=
  VecWindow.put s ![(i 1).val, 0, 0] S1x512x512.size w

/-- A tile lies inside the scratch of activations. -/
theorem tile_inb (k : Fin 13) : ∀ a, (![k.val, 0, 0] : Fin 3 → ℕ) a + S1x512x512.size a ≤ S13x512x512.size a := by
  revert k; decide

/-- The tile of column block `k` read from the scratch of activations. -/
noncomputable def tileAt (s : Vec F S13x512x512 .f32) (k : Fin 13) : Vec F S1x512x512 .f32 :=
  VecWindow.window s ![k.val, 0, 0] S1x512x512.size (tile_inb k)

/-- The column block a column of the codes lies in. -/
def blockOf (y : S512x6656.Idx) : Fin 13 :=
  ⟨(y 1).val / 512, by
    have h : (y 1).val < 6656 := (y 1).isLt
    omega⟩

/-- Where an index of the codes lies within its column block. -/
def inBlock (y : S512x6656.Idx) : S512x512.Idx := fun a => match a with
  | ⟨0, _⟩ => (⟨(y 0).val, (y 0).isLt⟩ : Fin 512)
  | ⟨1, _⟩ => (⟨(y 1).val % 512, Nat.mod_lt _ (by decide)⟩ : Fin 512)

/-- The codes of a row block, from the inverse scales and the thirteen tiles of activations. -/
noncomputable def codesOf (inv : FVec F S512x1 .f32) (t : Fin 13 → Vec F S1x512x512 .f32) : Vec F S512x6656 .fp8e4m3 :=
  fun y => k0_pay6 inv (t (blockOf y)) (inBlock y)

/-- The tile just put is the tile read back there. -/
theorem tileAt_putTile_same (i : grid0.Coords) (w : FVec F S1x512x512 .f32) (s : Vec F S13x512x512 .f32) (k : Fin 13)
    (h : k.val = (i 1).val) : tileAt (putTile i w s) k = w := by
  unfold tileAt putTile
  rw [h.symm]
  funext y
  rw [VecWindow.window_put_of_inside s _ _ _ _ (tile_inb k) w (fun a => ⟨le_rfl, le_rfl⟩)]
  refine congrArg w (funext fun a => Fin.ext ?_)
  show _ - _ + 1 * (y a).val = (y a).val
  omega

/-- The other tiles are untouched by a put. -/
theorem tileAt_putTile_other (i : grid0.Coords) (w : FVec F S1x512x512 .f32) (s : Vec F S13x512x512 .f32) (k : Fin 13)
    (h : k.val ≠ (i 1).val) : tileAt (putTile i w s) k = tileAt s k := by
  unfold tileAt putTile
  refine VecWindow.window_put_of_disjoint s _ _ _ _ (tile_inb k) w 0 ?_
  show k.val + 1 ≤ (i 1).val ∨ (i 1).val + 1 ≤ k.val
  omega

end Cert.KernelIdeal.Gen

end
-- ==== Proof.KernelIdeal.Parts.lean ====
/- The first part of the kernel body and one trip of its loop, run on their own. -/
module

public import proofs.«01_k».proof.Proof.KernelIdeal.Finish
public import proofs.«01_k».proof.Proof.KernelIdeal.Payloads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first part of the body: it loads the five inputs and computes from them. -/
theorem run_part3 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole)
    (x0 : Vec F S512x16384 .fp8e4m3) (x1 : Vec F S512x1 .f32) (x2 : Vec F S16384x512 .fp8e4m3) (x3 : Vec F S1x512 .f32) (x4 : Vec F S1x512 .bf16) (E : Set ℕ) (K : (Σ' (arg1 : BitVec 32) (v16 : FVec F S512x512 .f32) (v17 : FVec F S512x512 .f32) (v23 : FVec F S512x512 .f32) (v37 : FVec F S512x512 .f32), F .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4) -∗ K ⟨BitVec.ofNat 32 (i 1).val, k0_pay14 x0 x2 x1 x3 x4, k0_pay15 x0 x2 x1 x3 x4, k0_pay16 x0 x2 x1 x3 x4, k0_pay17 x0 x2 x1 x3 x4, Scalar.ofBits .f32 0x3DD814ED#32⟩))
      ⊢ wp frame (wpE (defs₀ (F := F)) Variants.none c none) E (k0_part3 i arg2 harg2 arg3 harg3 arg4 harg4 arg5 harg5 arg6 harg6 arg7 harg7 arg8 harg8 arg9 harg9 arg10 harg10) K := by
  rw [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec
  sl_step
  rw [View.readAt_full arg2.view f0 (off := ![0, 0]) inb_S512x16384_S512x16384_0_0,
    View.readAt_full arg3.view f1 (off := ![0, 0]) inb_S512x1_S512x1_0_0,
    View.readAt_full arg4.view f2 (off := ![0, 0]) inb_S16384x512_S16384x512_0_0,
    View.readAt_full arg5.view f3 (off := ![0, 0]) inb_S1x512_S1x512_0_0,
    View.readAt_full arg6.view f4 (off := ![0, 0]) inb_S1x512_S1x512_0_0]
  unfold run_part3.sl.cst_17
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists f4; isplitr; · ipureintro; rfl
  iexact H4

/-- The loop's trips number thirteen. -/
theorem trips_eq : k0_t1_loop.trips = 13 := by decide

/-- The piece trip `k` of the loop writes: the codes of column block `k`. -/
noncomputable abbrev codePiece (i : grid0.Coords) (k0_h3 : k0_cond3 i = 1#1) (v159 : FVec F S512x1 .f32) (t : Fin 13 → Vec F S1x512x512 .f32)
    (k : Fin k0_t1_loop.trips) : View.Piece (Elt F) S512x6656 .fp8e4m3 :=
  ⟨Rect.unit (s := S512x6656) (k0_off3 k) S512x512.size (k0_off3_inb i k k0_h3), k0_pay6 v159 (t ⟨k.val, trips_eq ▸ k.isLt⟩)⟩

/-- What one trip of the loop writes: one piece, the codes of its column block. -/
theorem trip_pieces (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (k : Fin k0_t1_loop.trips) :
    tripL_k0_t1 (F := F) Variants.none c none i arg2 harg2 arg3 harg3 arg4 harg4 arg5 harg5 arg6 harg6 arg7 harg7 arg8 harg8 arg9 harg9 arg10 harg10 k0_h3 v159 X9 k
      = [codePiece i k0_h3 v159 (tileAt (arg9.view.read (Elt F) X9)) k] := by
  unfold tripL_k0_t1 trip_k0_t1
  unfold codePiece tileAt
  rw [← View.readAt_unit arg9.view X9 (k0_off2_inb i k k0_h3) (k0_off2_eq k)]

/-- The pieces before trip `n` are the pieces of the trips before it. -/
theorem mem_pieces (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (p : View.Piece (Elt F) S512x6656 .fp8e4m3) :
    ∀ n : ℕ, n ≤ k0_t1_loop.trips →
      (p ∈ pb_k0_t1 (F := F) Variants.none c none i arg2 harg2 arg3 harg3 arg4 harg4 arg5 harg5 arg6 harg6 arg7 harg7 arg8 harg8 arg9 harg9 arg10 harg10 k0_h3 v159 X9 n
        ↔ ∃ k : Fin k0_t1_loop.trips, k.val < n ∧ p = codePiece i k0_h3 v159 (tileAt (arg9.view.read (Elt F) X9)) k)
  | 0, _ => by
    rw [pb_k0_t1.eq_1]
    exact ⟨fun h => absurd h List.not_mem_nil, fun ⟨k, hk, _⟩ => absurd hk (Nat.not_lt_zero _)⟩
  | n + 1, hn => by
    have hs := pb_k0_t1_succ (F := F) Variants.none c none i arg2 harg2 arg3 harg3 arg4 harg4 arg5 harg5 arg6 harg6 arg7 harg7 arg8 harg8 arg9 harg9 arg10 harg10 k0_h3 v159 X9 ⟨n, hn⟩
    rw [trip_pieces] at hs
    rw [show n + 1 = (⟨n, hn⟩ : Fin k0_t1_loop.trips).val + 1 from rfl, hs, List.mem_append, List.mem_singleton,
      mem_pieces c i arg2 harg2 arg3 harg3 arg4 harg4 arg5 harg5 arg6 harg6 arg7 harg7 arg8 harg8 arg9 harg9 arg10 harg10 k0_h3 v159 X9 p n (Nat.le_of_succ_le hn)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact Or.inr ⟨k, hk, h⟩
      · exact Or.inl (by rw [h]; exact congrArg _ (Fin.ext hk))

/-- What the whole loop leaves in the codes' window: the codes, whatever the window held. -/
theorem loop_codes (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (k0_h3 : k0_cond3 i = 1#1)
    (v159 : FVec F S512x1 .f32) (X9 : BufTy.Contents (Elt F) arg9.view.ty) (f5 : BufTy.Contents (Elt F) arg7.view.ty) :
    arg7.view.read (Elt F) (arg7.view.writes (Elt F) f5 (pb_k0_t1 (F := F) Variants.none c none i arg2 harg2 arg3 harg3 arg4 harg4 arg5 harg5 arg6 harg6 arg7 harg7 arg8 harg8 arg9 harg9 arg10 harg10 k0_h3 v159 X9 k0_t1_loop.trips))
      = codesOf v159 (tileAt (arg9.view.read (Elt F) X9)) := by
  funext y
  have hy1 : (y 1).val < 6656 := (y 1).isLt
  refine View.read_writes_apply_of_pieces arg7.view f5 (codesOf v159 (tileAt (arg9.view.read (Elt F) X9))) _ ?_ y ?_
  · intro p hp x
    obtain ⟨k, hk, rfl⟩ := (mem_pieces c i arg2 harg2 arg3 harg3 arg4 harg4 arg5 harg5 arg6 harg6 arg7 harg7 arg8 harg8 arg9 harg9 arg10 harg10 k0_h3 v159 X9 p _ le_rfl).mp hp
    have hk13 : k.val < 13 := trips_eq ▸ k.isLt
    have hx1 : (x 1).val < 512 := (x 1).isLt
    have h0 : (((Rect.unit (s := S512x6656) (k0_off3 k) S512x512.size (k0_off3_inb i k k0_h3)).emb x) 0).val = (x 0).val := by
      show k0_off3 k 0 + 1 * (x 0).val = (x 0).val
      rw [k0_off3_eq]
      show 0 + 1 * (x 0).val = (x 0).val
      omega
    have h1 : (((Rect.unit (s := S512x6656) (k0_off3 k) S512x512.size (k0_off3_inb i k k0_h3)).emb x) 1).val = 512 * k.val + (x 1).val := by
      show k0_off3 k 1 + 1 * (x 1).val = _
      rw [k0_off3_eq]
      show 512 * k.val + 1 * (x 1).val = _
      omega
    show k0_pay6 v159 _ x = k0_pay6 v159 (tileAt _ (blockOf _)) (inBlock _)
    have eb : blockOf ((Rect.unit (s := S512x6656) (k0_off3 k) S512x512.size (k0_off3_inb i k k0_h3)).emb x) = ⟨k.val, hk13⟩ :=
      Fin.ext (by
        show (((Rect.unit (s := S512x6656) (k0_off3 k) S512x512.size (k0_off3_inb i k k0_h3)).emb x) 1).val / 512 = k.val
        rw [h1]; omega)
    have ei : inBlock ((Rect.unit (s := S512x6656) (k0_off3 k) S512x512.size (k0_off3_inb i k k0_h3)).emb x) = x := by
      funext a
      match a with
      | ⟨0, _⟩ => exact Fin.ext h0
      | ⟨1, _⟩ =>
        refine Fin.ext ?_
        show (((Rect.unit (s := S512x6656) (k0_off3 k) S512x512.size (k0_off3_inb i k k0_h3)).emb x) 1).val % 512 = (x 1).val
        rw [h1]; omega
    rw [eb, ei]
  · have hb : (y 1).val / 512 < k0_t1_loop.trips := by rw [trips_eq]; omega
    refine ⟨codePiece i k0_h3 v159 (tileAt (arg9.view.read (Elt F) X9)) ⟨(y 1).val / 512, hb⟩,
      (mem_pieces c i arg2 harg2 arg3 harg3 arg4 harg4 arg5 harg5 arg6 harg6 arg7 harg7 arg8 harg8 arg9 harg9 arg10 harg10 k0_h3 v159 X9 _ _ le_rfl).mpr ⟨_, hb, rfl⟩, ?_⟩
    rw [Rect.mem_set_unit]
    rw [k0_off3_eq]
    intro a
    match a with
    | ⟨0, _⟩ => exact ⟨Nat.zero_le _, by have h : (y 0).val < 512 := (y 0).isLt; show (y 0).val < 0 + 512; omega⟩
    | ⟨1, _⟩ => exact ⟨by show 512 * ((y 1).val / 512) ≤ (y 1).val; omega, by show (y 1).val < 512 * ((y 1).val / 512) + 512; omega⟩

end Cert.KernelIdeal.Gen

end
-- ==== Proof.KernelIdeal.Body.lean ====
/- The kernel body run at one grid point, in the three cases of its column block, over the values of its buffers. -/
module

public import proofs.«01_k».proof.Proof.KernelIdeal.Parts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at a point of the first column block of a row block: the tile goes into the scratch of activations,
    its row maxima into the scratch of maxima; the results are untouched. -/
theorem bodyA (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : cond0_0 i) (hc1 : ¬cond0_1 i) (hc2 : ¬cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (putTile i (gTile x0 x1 x2 x3 x4) s0) ∗ owns (c : Thread nD τ) arg10 fullShare (firstMax x0 x1 x2 x3 x4)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_pos hc0, dif_neg hc1, dif_neg hc2]
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  sl_step
  iapply Hk
  isplitl [H0]; · iexact H0
  isplitl [H1]; · iexact H1
  isplitl [H2]; · iexact H2
  isplitl [H3]; · iexact H3
  isplitl [H4]; · iexact H4
  isplitl [H5]
  · iexists f7; isplitr; · ipureintro; rfl
    iexact H5
  isplitl [H6]
  · iexists f8; isplitr; · ipureintro; rfl
    iexact H6
  isplitl [HS0]
  · iexists _; isplitr
    swap
    · iexact HS0
    ipureintro
    exact View.read_writes_cons_put arg9.view f9 (k0_off1_inb i) _ [] (k0_off1_eq i)
  iexists _; isplitr
  swap
  · iexact HS1
  ipureintro
  exact (View.read_writes_full arg10.view f10 (off := ![0, 0]) inb_S512x1_S512x1_0_0 _ [])

/-- The body at a point of a middle column block: the tile goes into the scratch of activations, the running
    maxima are continued; the results are untouched. -/
theorem bodyB (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : ¬cond0_0 i) (hc1 : cond0_1 i) (hc2 : ¬cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (putTile i (gTile x0 x1 x2 x3 x4) s0) ∗ owns (c : Thread nD τ) arg10 fullShare (nextMax x0 x1 x2 x3 x4 s1)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_neg hc0, dif_pos hc1, dif_neg hc2]
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  sl_step
  iapply Hk
  isplitl [H0]; · iexact H0
  isplitl [H1]; · iexact H1
  isplitl [H2]; · iexact H2
  isplitl [H3]; · iexact H3
  isplitl [H4]; · iexact H4
  isplitl [H5]
  · iexists f7; isplitr; · ipureintro; rfl
    iexact H5
  isplitl [H6]
  · iexists f8; isplitr; · ipureintro; rfl
    iexact H6
  isplitl [HS0]
  · iexists _; isplitr
    swap
    · iexact HS0
    ipureintro
    exact View.read_writes_cons_put arg9.view f9 (k0_off1_inb i) _ [] (k0_off1_eq i)
  iexists _; isplitr
  swap
  · iexact HS1
  ipureintro
  exact (View.read_writes_full arg10.view f10 (off := ![0, 0]) inb_S512x1_S512x1_0_0 _ []).trans
    (congrArg (nextMax x0 x1 x2 x3 x4) (View.readAt_full arg10.view f10 (off := ![0, 0]) inb_S512x1_S512x1_0_0))

/-- The body at a point of the last column block: as at a middle one, and the results are written, the scales
    from the final maxima and the codes from the thirteen tiles. -/
theorem bodyC (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S512x6656 .fp8e4m3) (harg7 : arg7.IsWhole) (arg8 : Memref sig .tc .vmem S512x1 .f32) (harg8 : arg8.IsWhole) (arg9 : Memref sig .tc .vmem S13x512x512 .f32) (harg9 : arg9.IsWhole) (arg10 : Memref sig .tc .vmem S512x1 .f32) (harg10 : arg10.IsWhole) (hc0 : ¬cond0_0 i) (hc1 : cond0_1 i) (hc2 : cond0_2 i)
    (x0 : Vec F S512x16384 .fp8e4m3) (x1 : Vec F S512x1 .f32) (x2 : Vec F S16384x512 .fp8e4m3) (x3 : Vec F S1x512 .f32) (x4 : Vec F S1x512 .bf16) (d5 : Vec F S512x6656 .fp8e4m3) (d6 : Vec F S512x1 .f32) (s0 : Vec F S13x512x512 .f32) (s1 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare s0 ∗ owns (c : Thread nD τ) arg10 fullShare s1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOf (invOf (nextMax x0 x1 x2 x3 x4 s1)) (tileAt (putTile i (gTile x0 x1 x2 x3 x4) s0))) ∗ owns (c : Thread nD τ) arg8 fullShare (scaleOf (nextMax x0 x1 x2 x3 x4 s1)) ∗ owns (c : Thread nD τ) arg9 fullShare (putTile i (gTile x0 x1 x2 x3 x4) s0) ∗ owns (c : Thread nD τ) arg10 fullShare (nextMax x0 x1 x2 x3 x4 s1)) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10) K := by
  rw [cc0_body_eq_skeleton]; unfold cc0_body_skel
  iintro ⟨H0, H1, H2, H3, H4, H5, H6, HS0, HS1, Hk⟩
  rw [wp_bind]
  iapply (run_part3 c i arg2 harg2 arg3 harg3 arg4 harg4 arg5 harg5 arg6 harg6 arg7 harg7 arg8 harg8 arg9 harg9 arg10 harg10 x0 x1 x2 x3 x4)
  isplitl [H0]; · iexact H0
  isplitl [H1]; · iexact H1
  isplitl [H2]; · iexact H2
  isplitl [H3]; · iexact H3
  isplitl [H4]; · iexact H4
  iintro ⟨H0, H1, H2, H3, H4⟩
  dsimp only
  simp only [wp_bind, dif_neg hc0, dif_pos hc1, dif_pos hc2]
  generalize hT : ((wp frame (wpE (defs₀ (F := F)) Variants.none c none) E (k0_part1 i arg2 harg2 arg3 harg3 arg4 harg4 arg5 harg5 arg6 harg6 arg7 harg7 arg8 harg8 arg9 harg9 arg10 harg10)) _ : sProp 𝕄) = T
  unfold owns
  icases H5 with ⟨%f7, %hf7, H5⟩
  icases H6 with ⟨%f8, %hf8, H6⟩
  icases HS0 with ⟨%f9, %hf9, HS0⟩
  icases HS1 with ⟨%f10, %hf10, HS1⟩
  subst hf7; subst hf8; subst hf9; subst hf10
  sl_exec
  subst hT
  generalize hX9 : arg9.view.writes (Elt F) f9 _ = X9
  generalize hX10 : arg10.view.writes (Elt F) f10 _ = X10
  have e9 : arg9.view.read (Elt F) X9 = putTile i (gTile x0 x1 x2 x3 x4) (arg9.view.read (Elt F) f9) := by
    rw [← hX9]
    exact View.read_writes_cons_put arg9.view f9 (k0_off1_inb i) _ [] (k0_off1_eq i)
  have e10 : arg10.view.read (Elt F) X10 = nextMax x0 x1 x2 x3 x4 (arg10.view.read (Elt F) f10) := by
    rw [← hX10]
    exact (View.read_writes_full arg10.view f10 (off := ![0, 0]) inb_S512x1_S512x1_0_0 _ []).trans
      (congrArg (nextMax x0 x1 x2 x3 x4) (View.readAt_full arg10.view f10 (off := ![0, 0]) inb_S512x1_S512x1_0_0))
  sl_step
  iapply (run_part1 c i arg2 harg2 arg3 harg3 arg4 harg4 arg5 harg5 arg6 harg6 arg7 harg7 arg8 harg8 arg9 harg9 arg10 harg10 X10)
  isplitl [HS1]; · iexact HS1
  iintro HS1
  iapply (run_part2 c i arg2 harg2 arg3 harg3 arg4 harg4 arg5 harg5 arg6 harg6 arg7 harg7 arg8 harg8 arg9 harg9 arg10 harg10 _ _ _ _ f8)
  isplitl [H6]; · iexact H6
  iintro H6
  iapply (run_loop c i arg2 harg2 arg3 harg3 arg4 harg4 arg5 harg5 arg6 harg6 arg7 harg7 arg8 harg8 arg9 harg9 arg10 harg10 hc2 _ X9 f7)
  isplitl [HS0]; · iexact HS0
  isplitl [H5]; · iexact H5
  iintro ⟨HS0, H5⟩
  sl_step
  iapply Hk
  isplitl [H0]; · iexact H0
  isplitl [H1]; · iexact H1
  isplitl [H2]; · iexact H2
  isplitl [H3]; · iexact H3
  isplitl [H4]; · iexact H4
  have em : rowMax arg10 X10 = (nextMax x0 x1 x2 x3 x4 (arg10.view.read (Elt F) f10)) :=
    (View.readAt_full arg10.view X10 (off := ![0, 0]) inb_S512x1_S512x1_0_0).trans e10
  isplitl [H5]
  · iexists _; isplitr
    swap
    · iexact H5
    ipureintro
    rw [loop_codes, em]
    exact congrArg (fun t => codesOf (invOf (nextMax x0 x1 x2 x3 x4 (arg10.view.read (Elt F) f10))) (tileAt t)) e9
  isplitl [H6]
  · iexists _; isplitr
    swap
    · iexact H6
    ipureintro
    rw [em]
    exact View.read_writes_full arg8.view f8 (off := ![0, 0]) inb_S512x1_S512x1_0_0 _ []
  isplitl [HS0]
  · iexists _; isplitr
    swap
    · iexact HS0
    ipureintro; exact e9
  iexists _; isplitr
  swap
  · iexact HS1
  ipureintro; exact e10

end Cert.KernelIdeal.Gen

end
-- ==== Proof.KernelIdeal.Values.lean ====
/- What the kernel leaves at each grid point, as functions of the point: the tiles of activations, the running row
   maxima, the codes and the scales. -/
module

public import proofs.«01_k».proof.Proof.KernelIdeal.Payloads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The tile of activations computed at grid point `t`. -/
noncomputable def gAt (c : Dev nD) (t : Fin cfg0.N) : FVec F S1x512x512 .f32 :=
  gTile (iblk m c 0 t) (iblk m c 1 t) (iblk m c 2 t) (iblk m c 3 t) (iblk m c 4 t)

/-- The row maxima after point `n`: over the tiles of its row block up to it. -/
noncomputable def maxAt (c : Dev nD) : (n : ℕ) → n < cfg0.N → FVec F S512x1 .f32
  | 0, h => firstMax (iblk m c 0 ⟨0, h⟩) (iblk m c 1 ⟨0, h⟩) (iblk m c 2 ⟨0, h⟩) (iblk m c 3 ⟨0, h⟩) (iblk m c 4 ⟨0, h⟩)
  | n + 1, h =>
    if (n + 1) % 13 = 0 then firstMax (iblk m c 0 ⟨n + 1, h⟩) (iblk m c 1 ⟨n + 1, h⟩) (iblk m c 2 ⟨n + 1, h⟩) (iblk m c 3 ⟨n + 1, h⟩) (iblk m c 4 ⟨n + 1, h⟩)
    else nextMax (iblk m c 0 ⟨n + 1, h⟩) (iblk m c 1 ⟨n + 1, h⟩) (iblk m c 2 ⟨n + 1, h⟩) (iblk m c 3 ⟨n + 1, h⟩) (iblk m c 4 ⟨n + 1, h⟩) (maxAt c n (Nat.lt_of_succ_lt h))

/-- At a first column block the maxima are the tile's own. -/
theorem maxAt_first (c : Dev nD) (t : Fin cfg0.N) (h0 : t.val % 13 = 0) :
    maxAt m c t.val t.isLt = firstMax (iblk m c 0 t) (iblk m c 1 t) (iblk m c 2 t) (iblk m c 3 t) (iblk m c 4 t) := by
  obtain ⟨n, hn⟩ := t
  cases n with
  | zero => rfl
  | succ n => exact if_pos h0

/-- At a later column block the maxima continue those of the point before. -/
theorem maxAt_next (c : Dev nD) (t : Fin cfg0.N) (h0 : ¬t.val % 13 = 0) :
    maxAt m c t.val t.isLt = nextMax (iblk m c 0 t) (iblk m c 1 t) (iblk m c 2 t) (iblk m c 3 t) (iblk m c 4 t) (maxAt m c (t.val - 1) (lt_of_le_of_lt (Nat.sub_le _ _) t.isLt)) := by
  obtain ⟨n, hn⟩ := t
  cases n with
  | zero => exact absurd (Nat.zero_mod 13) h0
  | succ n => exact if_neg h0

/-- The grid has 156 points. -/
theorem lt156 (t : Fin cfg0.N) : t.val < 156 := lt_of_lt_of_eq t.isLt (show cfg0.N = 156 from N_0)

/-- The point of column block `k` in the row block of point `n`. -/
def pointOf (n : ℕ) (hn : n < cfg0.N) (k : Fin 13) : Fin cfg0.N :=
  ⟨13 * (n / 13) + k.val, by have h := lt156 ⟨n, hn⟩; have hk := k.isLt; have e : cfg0.N = 156 := N_0; simp only at h; omega⟩

/-- The scratch of activations after point `n` holds the tiles of its row block up to it. -/
def TilesOK (c : Dev nD) (n : ℕ) (hn : n < cfg0.N) (d : Vec F S13x512x512 .f32) : Prop :=
  ∀ k : Fin 13, k.val ≤ n % 13 → tileAt d k = gAt m c (pointOf n hn k)

/-- The column block of a point. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- A first column block starts the tiles. -/
theorem tiles_first (c : Dev nD) (t : Fin cfg0.N) (h0 : t.val % 13 = 0) (s : Vec F S13x512x512 .f32) :
    TilesOK m c t.val t.isLt (putTile (grid0.coords t) (gAt m c t) s) := by
  intro k hk
  rw [tileAt_putTile_same _ _ _ k (by rw [coord1]; omega)]
  exact congrArg (gAt m c) (Fin.ext (by show t.val = 13 * (t.val / 13) + k.val; omega))

/-- A later column block adds its tile. -/
theorem tiles_next (c : Dev nD) (t : Fin cfg0.N) (h0 : ¬t.val % 13 = 0) (s : Vec F S13x512x512 .f32)
    (hs : TilesOK m c (t.val - 1) (lt_of_le_of_lt (Nat.sub_le _ _) t.isLt) s) :
    TilesOK m c t.val t.isLt (putTile (grid0.coords t) (gAt m c t) s) := by
  intro k hk
  by_cases e : k.val = t.val % 13
  · rw [tileAt_putTile_same _ _ _ k (by rw [coord1]; exact e)]
    exact congrArg (gAt m c) (Fin.ext (by show t.val = 13 * (t.val / 13) + k.val; omega))
  · rw [tileAt_putTile_other _ _ _ k (by rw [coord1]; exact e), hs k (by omega)]
    exact congrArg (gAt m c) (Fin.ext (by show 13 * ((t.val - 1) / 13) + k.val = 13 * (t.val / 13) + k.val; omega))

/-- At a last column block the scratch holds all the tiles. -/
theorem tiles_last (c : Dev nD) (t : Fin cfg0.N) (h2 : t.val % 13 = 12) (s : Vec F S13x512x512 .f32)
    (hs : TilesOK m c t.val t.isLt s) : tileAt s = fun k => gAt m c (pointOf t.val t.isLt k) :=
  funext fun k => hs k (by have := k.isLt; omega)

/-- The codes of the row block of point `t`. -/
noncomputable def codesAt (c : Dev nD) (t : Fin cfg0.N) : Vec F S512x6656 .fp8e4m3 :=
  codesOf (invOf (maxAt m c t.val t.isLt)) (fun k => gAt m c (pointOf t.val t.isLt k))

/-- The scales of the row block of point `t`. -/
noncomputable def scaleAt (c : Dev nD) (t : Fin cfg0.N) : Vec F S512x1 .f32 :=
  scaleOf (maxAt m c t.val t.isLt)

end Cert.KernelIdeal.Gen

end
-- ==== Proof.KernelIdeal.Frame.lean ====
/- The frame of the kernel: the body obligation at every grid point, the run, and the arguments unchanged. -/
module

public import proofs.«01_k».proof.Proof.KernelIdeal.Body
public import proofs.«01_k».proof.Proof.KernelIdeal.Values
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What holds between points: before the first, the scratches at anything; after point `n`, the tiles of its row
    block so far in the one scratch and the row maxima so far in the other. -/
def PhiS (c : Dev nD) : (n : ℕ) → n ≤ cfg0.N → sProp 𝕄
  | 0, _ => Pipeline.ΦA spec0 c
  | n + 1, hn => iprop(iprop((∃ d, ⌜TilesOK m c n hn d⌝ ∗ owns (c : Thread nD τ) scM0_0 fullShare d) ∗ owns (c : Thread nD τ) scM0_1 fullShare (maxAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn
    = iprop(iprop((∃ d, ⌜TilesOK m c n hn d⌝ ∗ owns (c : Thread nD τ) scM0_0 fullShare d) ∗ owns (c : Thread nD τ) scM0_1 fullShare (maxAt m c n hn)) ∗ (∃ r, prngReg c r)) := rfl
theorem PhiS_pos (c : Dev nD) (n : ℕ) (h : n ≤ cfg0.N) (hz : n ≠ 0) : PhiS m c n h
    = iprop(iprop((∃ d, ⌜TilesOK m c (n - 1) (lt_of_lt_of_le (Nat.sub_lt (Nat.pos_of_ne_zero hz) Nat.one_pos) h) d⌝ ∗ owns (c : Thread nD τ) scM0_0 fullShare d) ∗ owns (c : Thread nD τ) scM0_1 fullShare (maxAt m c (n - 1) (lt_of_lt_of_le (Nat.sub_lt (Nat.pos_of_ne_zero hz) Nat.one_pos) h))) ∗ (∃ r, prngReg c r)) := by
  cases n with
  | zero => exact absurd rfl hz
  | succ n => rfl

/-- The proof data of the pipeline: the arrays as the launch finds them, each input's block left in place, the
    results of a row block as computed at its last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => scaleAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = scaleAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' buffers hold their blocks, the point's column block says which case it is, and
    the invariant is handed on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  by_cases h0 : t.val % 13 = 0
  · have h1 : ¬1 ≤ t.val % 13 := by omega
    have h2 : ¬t.val % 13 = 12 := by omega
    rw [leaves0 m c t, leaves1 m c t, leaves2 m c t, leaves3 m c t, leaves4 m c t]
    rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
    rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
    by_cases hz : t.val = 0
    · rw [PhiS_castSucc m c t, PhiS_zero m c _ _ hz, PhiA0_eq]
      rw [maxAt_first m c t h0]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_first m c t h0 _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      rw [maxAt_first m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyA c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_first m c t h0 _
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have h1 : 1 ≤ t.val % 13 := by omega
    have hz : t.val ≠ 0 := fun h => h0 (by rw [h])
    by_cases h2 : t.val % 13 = 12
    · rw [leaves0 m c t, leaves1 m c t, leaves2 m c t, leaves3 m c t, leaves4 m c t]
      rw [show (dats m 0 c).leavesExact 5 t = owns (c : Thread nD τ) (ms0_5 t) fullShare ((dats m 0 c).after 5 t) from by unfold Dat.leavesExact; rw [liveAt0_5_C t (fun h => h0 ((hcond0_0 t).mp h)) ((hcond0_1 t).mpr h1) ((hcond0_2 t).mpr h2)], after0_5]
      rw [show (dats m 0 c).leavesExact 6 t = owns (c : Thread nD τ) (ms0_6 t) fullShare ((dats m 0 c).after 6 t) from by unfold Dat.leavesExact; rw [liveAt0_6_C t (fun h => h0 ((hcond0_0 t).mp h)) ((hcond0_1 t).mpr h1) ((hcond0_2 t).mpr h2)], after0_6]
      rw [PhiS_castSucc m c t, PhiS_pos m c _ _ hz]
      unfold codesAt scaleAt
      rw [maxAt_next m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyC c (grid0.coords t) _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_next m c t h0 _ he0
          iexact HS1
        iexact Hg
      isplitl [Ho]; · iexact Ho
      isplitl [H0]; · iexact H0
      isplitl [H1]; · iexact H1
      isplitl [H2]; · iexact H2
      isplitl [H3]; · iexact H3
      isplitl [H4]; · iexact H4
      rw [show tileAt (putTile (grid0.coords t) (gTile (iblk m c 0 t) (iblk m c 1 t) (iblk m c 2 t) (iblk m c 3 t) (iblk m c 4 t)) e0) = (fun k => gAt m c (pointOf t.val t.isLt k)) from tiles_last m c t h2 _ (tiles_next m c t h0 _ he0)]
      isplitl [H5]; · iexact H5
      iexact H6
    · rw [leaves0 m c t, leaves1 m c t, leaves2 m c t, leaves3 m c t, leaves4 m c t]
      rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
      rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
      rw [PhiS_castSucc m c t, PhiS_pos m c _ _ hz]
      rw [maxAt_next m c t h0]
      iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyB c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ e0 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexists _; isplitr
            swap
            · iexact HS0
            ipureintro
            exact tiles_next m c t h0 _ he0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's form back: what the scratches hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%d, -, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 156 := N_0; omega)

/-! ## The run and the frame -/

set_option backward.isDefEq.respectTransparency.types false in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates, and every final state has every array of the pipeline at what the proof data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program terminates, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Math.Gelu.lean ====
module

public import Idealize.ShloMosaic.PureOps.Ideal
public import Mathlib.Tactic.Ring
public import Mathlib.Tactic.FieldSimp
public import Mathlib.Tactic.Positivity
public import Mathlib.Tactic.Linarith
public import Mathlib.Tactic.NormNum

/-! # GELU of one element: the kernel's form and the reference's are one function

The kernel writes GELU as `max h 0 - |h| * tail`, with `tail = 2^(h*h * (-1/2 * 1/log 2)) * poly t`, the polynomial by
Horner's rule; the reference writes `h * Φ h`, with `Φ h = 1 - tail` where `h ≥ 0` and `tail` below, `tail` an
exponential times the polynomial as a sum of powers. Both are over the extended reals, and agree at every one of
them, the infinities included. -/

@[expose] public section

noncomputable section

namespace Cert.Gelu

open Idealize.ShloMosaic

/-- The real a pattern of eight exponent bits that are not all ones denotes. -/
theorem lit (b : BitVec 32) (h : (b.extractLsb' 23 8).toNat ≠ 255) :
    ∃ r : ℝ, Ideal.ofBits .f32 b = (r : EReal) := by
  unfold Ideal.ofBits Ideal.ieee
  simp only
  rw [if_neg (by simpa using h)]
  split <;> exact ⟨_, rfl⟩

theorem lit_zero : Ideal.ofBits .f32 0x00000000#32 = 0 := by
  simp [Ideal.ofBits, Ideal.ieee]

theorem lit_one : Ideal.ofBits .f32 0x3F800000#32 = ((1 : ℝ) : EReal) := by
  simp [Ideal.ofBits, Ideal.ieee, -EReal.coe_mul]; norm_num

theorem lit_neg_half : Ideal.ofBits .f32 0xBF000000#32 = ((-1 / 2 : ℝ) : EReal) := by
  simp [Ideal.ofBits, Ideal.ieee, -EReal.coe_mul]; norm_num

/-- The coefficient of `|h|` in the polynomial's argument is a positive real. -/
theorem lit_slope : ∃ r : ℝ, 0 < r ∧ Ideal.ofBits .f32 0x3EB33333#32 = (r : EReal) := by
  refine ⟨11744051 * 2 ^ (-25 : ℤ), by positivity, ?_⟩
  simp [Ideal.ofBits, Ideal.ieee, -EReal.coe_mul]

/-- The absolute value of an extended real, as the larger of it and its negation. -/
def abs' (x : EReal) : EReal := max x (-x)

/-- The polynomial's argument `1 / (1 + c * |h|)`. -/
def arg (h : EReal) : EReal :=
  Ideal.div (Ideal.ofBits .f32 0x3F800000#32) (Ideal.ofBits .f32 0x3F800000#32 + Ideal.ofBits .f32 0x3EB33333#32 * abs' h)

/-- The first part of the kernel's Horner form. -/
def hornerHead (t : EReal) : EReal :=
  ((((Ideal.ofBits .f32 0xBCEEC3E2#32 * t + Ideal.ofBits .f32 0x3E136D95#32) * t + Ideal.ofBits .f32 0xBE82ED40#32) * t
    + Ideal.ofBits .f32 0x3E22FF2A#32) * t + Ideal.ofBits .f32 0xBCBD5428#32) * t

/-- The kernel's Horner form, before its last product by `t`. -/
def horner (t : EReal) : EReal :=
  (((hornerHead t + Ideal.ofBits .f32 0x3DD814ED#32) * t + Ideal.ofBits .f32 0x3DF56AD9#32) * t
    + Ideal.ofBits .f32 0x3E0F37F5#32) * t + Ideal.ofBits .f32 0x3E0EF8EA#32

/-- GELU as the kernel writes it. -/
def kernel (h : EReal) : EReal :=
  max h (Ideal.ofBits .f32 0x00000000#32)
    - abs' h * (Ideal.exp2 (h * h * (((-1 / 2) * (Real.log 2)⁻¹ : ℝ) : EReal)) * (horner (arg h) * arg h))

/-- The reference's first four terms of the polynomial. -/
def sumHead (t : EReal) : EReal :=
  (((Ideal.ofBits .f32 0x00000000#32 + Ideal.ofBits .f32 0x3E0EF8EA#32 * t) + Ideal.ofBits .f32 0x3E0F37F5#32 * (t * t))
    + Ideal.ofBits .f32 0x3DF56AD9#32 * (t * t * t)) + Ideal.ofBits .f32 0x3DD814ED#32 * (t * t * t * t)

/-- The reference's polynomial, a sum of powers. -/
def sum (t : EReal) : EReal :=
  ((((sumHead t + Ideal.ofBits .f32 0xBCBD5428#32 * (t * t * t * t * t))
    + Ideal.ofBits .f32 0x3E22FF2A#32 * (t * t * t * t * t * t))
    + Ideal.ofBits .f32 0xBE82ED40#32 * (t * t * t * t * t * t * t))
    + Ideal.ofBits .f32 0x3E136D95#32 * (t * t * t * t * t * t * t * t))
    + Ideal.ofBits .f32 0xBCEEC3E2#32 * (t * t * t * t * t * t * t * t * t)

/-- The reference's tail of the normal distribution beyond `|h|`. -/
def below (h : EReal) : EReal :=
  Ideal.exp (Ideal.ofBits .f32 0xBF000000#32 * (abs' h * abs' h)) * sum (arg h)

/-- GELU as the reference writes it. -/
def reference (h : EReal) : EReal :=
  h * (if Ideal.ofBits .f32 0x00000000#32 ≤ h then Ideal.ofBits .f32 0x3F800000#32 - below h else below h)

/-- Horner's rule: at a real argument the two polynomials are one real. -/
theorem poly_eq (t : ℝ) : ∃ p : ℝ, horner t * t = (p : EReal) ∧ sum t = (p : EReal) := by
  obtain ⟨a1, h1⟩ := lit 0xBCEEC3E2#32 (by decide)
  obtain ⟨a2, h2⟩ := lit 0x3E136D95#32 (by decide)
  obtain ⟨a3, h3⟩ := lit 0xBE82ED40#32 (by decide)
  obtain ⟨a4, h4⟩ := lit 0x3E22FF2A#32 (by decide)
  obtain ⟨a5, h5⟩ := lit 0xBCBD5428#32 (by decide)
  obtain ⟨a6, h6⟩ := lit 0x3DD814ED#32 (by decide)
  obtain ⟨a7, h7⟩ := lit 0x3DF56AD9#32 (by decide)
  obtain ⟨a8, h8⟩ := lit 0x3E0F37F5#32 (by decide)
  obtain ⟨a9, h9⟩ := lit 0x3E0EF8EA#32 (by decide)
  refine ⟨(((((((((a1 * t + a2) * t + a3) * t + a4) * t + a5) * t + a6) * t + a7) * t + a8) * t + a9) * t), ?_, ?_⟩
  · simp only [horner, hornerHead, h1, h2, h3, h4, h5, h6, h7, h8, h9, ← EReal.coe_mul, ← EReal.coe_add]
  · simp only [sum, sumHead, lit_zero, h1, h2, h3, h4, h5, h6, h7, h8, h9, ← EReal.coe_zero, ← EReal.coe_mul,
      ← EReal.coe_add, EReal.coe_eq_coe_iff]
    ring

/-- The absolute value of a real. -/
theorem abs'_coe (r : ℝ) : abs' r = ((|r| : ℝ) : EReal) := by
  rw [abs', ← EReal.coe_neg, ← EReal.coe_strictMono.monotone.map_max]; rfl

/-- At a real the polynomial's argument is a real. -/
theorem arg_coe (r : ℝ) : ∃ t : ℝ, arg r = (t : EReal) := by
  obtain ⟨c, hc, h⟩ := lit_slope
  have hne : 1 + c * |r| ≠ 0 := by positivity
  refine ⟨1 * (1 / (1 + c * |r|)), ?_⟩
  rw [arg, abs'_coe, h, lit_one, ← EReal.coe_mul, ← EReal.coe_add, Ideal.div_coe hne, ← EReal.coe_mul]

/-- At an infinity the polynomial's argument is zero. -/
theorem arg_of_abs' (h : EReal) (hh : abs' h = ⊤) : arg h = 0 := by
  obtain ⟨c, hc, h'⟩ := lit_slope
  rw [arg, hh, h', lit_one, EReal.coe_mul_top_of_pos hc, EReal.coe_add_top]
  simp [Ideal.div]

/-- The base-two exponential the kernel takes is the natural exponential the reference takes. -/
theorem exp2_eq (r : ℝ) : Real.rpow 2 (r * r * ((-1 / 2) * (Real.log 2)⁻¹)) = Real.exp (-1 / 2 * (|r| * |r|)) := by
  have hl : Real.log 2 ≠ 0 := by positivity
  show (2 : ℝ) ^ (r * r * ((-1 / 2) * (Real.log 2)⁻¹)) = _
  rw [Real.rpow_def_of_pos (by norm_num), abs_mul_abs_self]
  congr 1; field_simp

/-- **GELU.** The kernel's form and the reference's are equal at every extended real. -/
theorem kernel_eq_reference (h : EReal) : kernel h = reference h := by
  obtain ⟨p0, hp0, hs0⟩ := poly_eq 0
  induction h with
  | bot =>
    have ha : abs' ⊥ = ⊤ := by simp [abs']
    have ht := arg_of_abs' ⊥ ha
    have hneg : ((-1 / 2) * (Real.log 2)⁻¹ : ℝ) < 0 := by
      have : 0 < Real.log 2 := Real.log_pos (by norm_num)
      have := inv_pos.mpr this; nlinarith
    have hb : below ⊥ = 0 := by
      rw [below, ha, lit_neg_half, EReal.top_mul_top, EReal.coe_mul_top_of_neg (by norm_num), Ideal.exp_bot, zero_mul]
    rw [kernel, reference, hb, ha, lit_zero, EReal.bot_mul_bot, EReal.top_mul_coe_of_neg hneg, Ideal.exp2_bot]
    simp
  | top =>
    have ha : abs' ⊤ = ⊤ := by simp [abs']
    have ht := arg_of_abs' ⊤ ha
    have hneg : ((-1 / 2) * (Real.log 2)⁻¹ : ℝ) < 0 := by
      have : 0 < Real.log 2 := Real.log_pos (by norm_num)
      have := inv_pos.mpr this; nlinarith
    have hb : below ⊤ = 0 := by
      rw [below, ha, lit_neg_half, EReal.top_mul_top, EReal.coe_mul_top_of_neg (by norm_num), Ideal.exp_bot, zero_mul]
    rw [kernel, reference, hb, ha, lit_zero, lit_one, EReal.top_mul_top, EReal.top_mul_coe_of_neg hneg, Ideal.exp2_bot]
    simp
  | coe r =>
    obtain ⟨t, ht⟩ := arg_coe r
    obtain ⟨p, hp, hs⟩ := poly_eq t
    have hb : below r = ((Real.exp (-1 / 2 * (|r| * |r|)) * p : ℝ) : EReal) := by
      rw [below, ht, hs, abs'_coe, lit_neg_half, ← EReal.coe_mul, ← EReal.coe_mul, Ideal.exp_coe, ← EReal.coe_mul]
    rw [kernel, reference, hb, ht, hp, abs'_coe, lit_zero, lit_one, ← EReal.coe_mul, ← EReal.coe_mul, Ideal.exp2_coe,
      exp2_eq, ← EReal.coe_mul, ← EReal.coe_mul]
    by_cases hr : 0 ≤ r
    · rw [if_pos (by exact_mod_cast hr), max_eq_left (by exact_mod_cast hr), abs_of_nonneg hr, ← EReal.coe_sub,
        ← EReal.coe_sub, ← EReal.coe_mul, EReal.coe_eq_coe_iff]
      ring
    · have hr' : r < 0 := lt_of_not_ge hr
      rw [if_neg (by exact_mod_cast hr), max_eq_right (by exact_mod_cast hr'.le), abs_of_neg hr', ← EReal.coe_zero,
        ← EReal.coe_sub, ← EReal.coe_mul, EReal.coe_eq_coe_iff]
      ring

end Cert.Gelu
-- ==== Proof.Math.Exponent.lean ====
module

public import proofs.«01_k».proof.Proof.Math.Gelu
public import Idealize.ShloMosaic.PureOps.Vector
public import Mathlib.Tactic.IntervalCases

/-! # The power-of-two scale of one row: the kernel's form and the reference's are one function

The kernel finds the biased exponent of `q` by bisection (the largest `c` with the float of exponent field `c` at most
`q`), replaces the exponents of zero and of infinity by 126, and builds `2^(c+1-127)` and its inverse from the bits.
The reference takes `2^e` and `2^(-e)` with `e = ⌊log q / log 2⌋ + 1` where `q` is a normal number below `2^126`, and
`e = 0` elsewhere. Both are over the extended reals, and agree at every one of them. -/

@[expose] public section

noncomputable section

namespace Cert.Exponent

open Idealize.ShloMosaic

/-- The float whose bits are the exponent field `c` alone. -/
def field (c : BitVec 32) : EReal := Ideal.ofBits .f32 (IntOp.shli .vector c 23#32)

/-- One step of the bisection: add `w` to the exponent field if the float of the sum is at most `q`. -/
def step (q : EReal) (w b : BitVec 32) : BitVec 32 :=
  Scalar.select (Ideal.cmp .oge q (field (IntOp.addi b w))) (IntOp.addi b w) b

/-- The bisection's result: eight steps of halving widths. -/
def search (q : EReal) : BitVec 32 :=
  step q 1#32 (step q 2#32 (step q 4#32 (step q 8#32 (step q 16#32 (step q 32#32 (step q 64#32 (step q 128#32 0#32)))))))

/-- The exponent field read back from the bits, infinity's from `2^126` on. -/
def read (q : EReal) : BitVec 32 :=
  IntOp.shrui .vector
    (IntOp.shli .vector (Scalar.select (Ideal.cmp .oge q (Ideal.ofBits .f32 0x7E800000#32)) 255#32 (search q)) 23#32) 23#32

/-- The kernel's exponent field: 126 in place of zero's and infinity's. -/
def kernel (q : EReal) : BitVec 32 :=
  Scalar.select (IntOp.ori (IntOp.cmpi .eq (read q) 0#32) (IntOp.cmpi .eq (read q) 255#32)) 126#32 (read q)

/-- The kernel's scale. -/
def kernelScale (q : EReal) : EReal := field (IntOp.addi (kernel q) 1#32)

/-- The kernel's inverse scale. -/
def kernelInv (q : EReal) : EReal := field (IntOp.subi 253#32 (kernel q))

/-- The reference's exponent. -/
def reference (q : EReal) : EReal :=
  Scalar.select
    (IntOp.andi (Ideal.cmp .oge q (Ideal.ofBits .f32 0x00800000#32)) (Ideal.cmp .olt q (Ideal.ofBits .f32 0x7E800000#32)))
    (Ideal.liftRound Int.floor (Ideal.div (Ideal.log q) ((Real.log 2 : ℝ) : EReal)) + Ideal.ofBits .f32 0x3F800000#32)
    (Ideal.ofBits .f32 0x00000000#32)

/-- The reference's scale. -/
def referenceScale (q : EReal) : EReal := Ideal.exp2 (reference q)

/-- The reference's inverse scale. -/
def referenceInv (q : EReal) : EReal := Ideal.exp2 (Ideal.ofBits .f32 0x00000000#32 - reference q)

/-- The bits of an exponent field below 256, and the field read back. -/
theorem bits_field' : ∀ m : Fin 256, ((IntOp.shli .vector (BitVec.ofNat 32 m.val) 23#32).extractLsb' 31 1 == 1#1) = false
      ∧ ((IntOp.shli .vector (BitVec.ofNat 32 m.val) 23#32).extractLsb' 23 8).toNat = m.val
      ∧ ((IntOp.shli .vector (BitVec.ofNat 32 m.val) 23#32).extractLsb' 0 23).toNat = 0
      ∧ IntOp.shrui .vector (IntOp.shli .vector (BitVec.ofNat 32 m.val) 23#32) 23#32 = BitVec.ofNat 32 m.val := by
  decide +kernel

theorem bits_field (n : ℕ) (hn : n < 256) :
    ((IntOp.shli .vector (BitVec.ofNat 32 n) 23#32).extractLsb' 31 1 == 1#1) = false
      ∧ ((IntOp.shli .vector (BitVec.ofNat 32 n) 23#32).extractLsb' 23 8).toNat = n
      ∧ ((IntOp.shli .vector (BitVec.ofNat 32 n) 23#32).extractLsb' 0 23).toNat = 0
      ∧ IntOp.shrui .vector (IntOp.shli .vector (BitVec.ofNat 32 n) 23#32) 23#32 = BitVec.ofNat 32 n :=
  bits_field' ⟨n, hn⟩

/-- A pattern of sign and significand zero and exponent field `n`, for a normal number, denotes `2^(n-127)`. -/
theorem ofBits_normal (b : BitVec 32) (n : ℕ) (h0 : 1 ≤ n) (h1 : n ≤ 254) (hs : (b.extractLsb' 31 1 == 1#1) = false)
    (he : (b.extractLsb' 23 8).toNat = n) (hf : (b.extractLsb' 0 23).toNat = 0) :
    Ideal.ofBits .f32 b = (((2 : ℝ) ^ ((n : ℤ) - 127) : ℝ) : EReal) := by
  have h2 : (2 : ℝ) ≠ 0 := by norm_num
  unfold Ideal.ofBits Ideal.ieee
  simp only [hs, he, hf, show (8 + 23) = 31 from rfl]
  rw [if_neg (by norm_num; omega), if_neg (by omega), EReal.coe_eq_coe_iff]
  have e : (n : ℤ) - 127 = 23 + ((n : ℤ) - (2 ^ (8 - 1) - 1) - 23) := by norm_num
  rw [e, zpow_add₀ h2]
  norm_num

/-- A pattern of sign and significand zero and exponent field 255 denotes infinity. -/
theorem ofBits_top (b : BitVec 32) (hs : (b.extractLsb' 31 1 == 1#1) = false)
    (he : (b.extractLsb' 23 8).toNat = 255) (hf : (b.extractLsb' 0 23).toNat = 0) : Ideal.ofBits .f32 b = ⊤ := by
  unfold Ideal.ofBits Ideal.ieee
  simp only [hs, he, hf, show (8 + 23) = 31 from rfl]
  norm_num

/-- The float of exponent field `n`, for a normal number, is `2^(n-127)`. -/
theorem field_normal (n : ℕ) (h0 : 1 ≤ n) (h1 : n ≤ 254) :
    field (BitVec.ofNat 32 n) = (((2 : ℝ) ^ ((n : ℤ) - 127) : ℝ) : EReal) :=
  ofBits_normal _ n h0 h1 (bits_field n (by omega)).1 (bits_field n (by omega)).2.1 (bits_field n (by omega)).2.2.1

/-- The float of exponent field 255 is infinity. -/
theorem field_top : field (BitVec.ofNat 32 255) = ⊤ :=
  ofBits_top _ (bits_field 255 (by omega)).1 (bits_field 255 (by omega)).2.1 (bits_field 255 (by omega)).2.2.1

/-- One step of the bisection, once the float comparisons are known to compare exponent fields with `E`. -/
theorem step_eq {q : EReal} {E w b : ℕ} (H : ∀ c : ℕ, 1 ≤ c → c ≤ 255 → (field (BitVec.ofNat 32 c) ≤ q ↔ c ≤ E))
    (hw : 1 ≤ w) (hb : b + w ≤ 255) :
    step q (BitVec.ofNat 32 w) (BitVec.ofNat 32 b) = BitVec.ofNat 32 (if b + w ≤ E then b + w else b) := by
  have ha : IntOp.addi (BitVec.ofNat 32 b) (BitVec.ofNat 32 w) = BitVec.ofNat 32 (b + w) := by
    unfold IntOp.addi; exact (BitVec.ofNat_add ..).symm
  unfold step
  rw [ha]
  have := H (b + w) (by omega) hb
  by_cases h : b + w ≤ E
  · rw [if_pos h]
    simp [Scalar.select, Ideal.cmp, this.mpr h]
  · rw [if_neg h]
    have h' : ¬ field (BitVec.ofNat 32 (b + w)) ≤ q := fun h'' => h (this.mp h'')
    simp [Scalar.select, Ideal.cmp, h']

/-- The bisection finds `E`. -/
theorem search_eq {q : EReal} {E : ℕ} (hE : E ≤ 255)
    (H : ∀ c : ℕ, 1 ≤ c → c ≤ 255 → (field (BitVec.ofNat 32 c) ≤ q ↔ c ≤ E)) : search q = BitVec.ofNat 32 E := by
  unfold search
  have key : ∀ (w b : ℕ), 1 ≤ w → b + w ≤ 255 → b ≤ E → E < b + 2 * w →
      ∃ b', step q (BitVec.ofNat 32 w) (BitVec.ofNat 32 b) = BitVec.ofNat 32 b' ∧ b' ≤ E ∧ E < b' + w ∧ b' ≤ b + w := by
    intro w b hw hb h1 h2
    refine ⟨_, step_eq H hw hb, ?_⟩
    split <;> omega
  obtain ⟨b1, e1, l1, u1, m1⟩ := key 128 0 (by omega) (by omega) (by omega) (by omega)
  rw [e1]
  obtain ⟨b2, e2, l2, u2, m2⟩ := key 64 b1 (by omega) (by omega) (by omega) (by omega)
  rw [e2]
  obtain ⟨b3, e3, l3, u3, m3⟩ := key 32 b2 (by omega) (by omega) (by omega) (by omega)
  rw [e3]
  obtain ⟨b4, e4, l4, u4, m4⟩ := key 16 b3 (by omega) (by omega) (by omega) (by omega)
  rw [e4]
  obtain ⟨b5, e5, l5, u5, m5⟩ := key 8 b4 (by omega) (by omega) (by omega) (by omega)
  rw [e5]
  obtain ⟨b6, e6, l6, u6, m6⟩ := key 4 b5 (by omega) (by omega) (by omega) (by omega)
  rw [e6]
  obtain ⟨b7, e7, l7, u7, m7⟩ := key 2 b6 (by omega) (by omega) (by omega) (by omega)
  rw [e7]
  obtain ⟨b8, e8, l8, u8, m8⟩ := key 1 b7 (by omega) (by omega) (by omega) (by omega)
  rw [e8]
  congr 1; omega

theorem lit_min : Ideal.ofBits .f32 0x00800000#32 = (((2 : ℝ) ^ (-126 : ℤ) : ℝ) : EReal) := by
  have h := field_normal 1 (by norm_num) (by norm_num)
  exact (congrArg (Ideal.ofBits .f32) (by decide)).trans h

theorem lit_max : Ideal.ofBits .f32 0x7E800000#32 = (((2 : ℝ) ^ (126 : ℤ) : ℝ) : EReal) := by
  have h := field_normal 253 (by norm_num) (by norm_num)
  exact (congrArg (Ideal.ofBits .f32) (by decide)).trans h

/-- A power of two is at most `r > 0` exactly if its exponent is at most `⌊log r / log 2⌋`. -/
theorem zpow_le_iff {r : ℝ} (hr : 0 < r) (x : ℤ) : (2 : ℝ) ^ x ≤ r ↔ x ≤ ⌊Real.log r * (1 / Real.log 2)⌋ := by
  have hl : 0 < Real.log 2 := Real.log_pos (by norm_num)
  rw [Int.le_floor, mul_one_div, le_div_iff₀ hl, ← Real.log_zpow, Real.log_le_log_iff (by positivity) hr]

/-- Where the reference's exponent is not zero: its value and the exponent field the bisection finds. -/
theorem in_range (r : ℝ) (h0 : (2 : ℝ) ^ (-126 : ℤ) ≤ r) (h1 : r < (2 : ℝ) ^ (126 : ℤ)) :
    ∃ n : ℤ, -126 ≤ n ∧ n ≤ 125 ∧ search (r : EReal) = BitVec.ofNat 32 (n + 127).toNat
      ∧ reference (r : EReal) = ((n + 1 : ℝ) : EReal) := by
  have hr : 0 < r := lt_of_lt_of_le (by positivity) h0
  have key := zpow_le_iff hr
  generalize hN : ⌊Real.log r * (1 / Real.log 2)⌋ = N at key
  have hlo : -126 ≤ N := (key _).mp h0
  have hhi : N ≤ 125 := by
    by_contra h
    exact absurd ((key 126).mpr (by omega)) (not_le.mpr h1)
  refine ⟨N, hlo, hhi, ?_, ?_⟩
  · apply search_eq (by omega)
    intro c hc0 hc1
    by_cases hc : c ≤ 254
    · rw [field_normal c hc0 hc, EReal.coe_le_coe_iff, key]; omega
    · obtain rfl : c = 255 := by omega
      rw [field_top]
      constructor
      · intro h; exact absurd h (by simp)
      · intro h; omega
  · have hl : Real.log 2 ≠ 0 := by positivity
    unfold reference
    rw [lit_min, lit_max, Ideal.log_coe, if_neg (not_le.mpr hr), Ideal.div_coe hl, ← EReal.coe_mul, Ideal.liftRound_coe,
      hN, Gelu.lit_one, ← EReal.coe_add]
    have c0 : (((2 : ℝ) ^ (-126 : ℤ) : ℝ) : EReal) ≤ (r : EReal) := EReal.coe_le_coe_iff.mpr h0
    have c1 : (r : EReal) < (((2 : ℝ) ^ (126 : ℤ) : ℝ) : EReal) := EReal.coe_lt_coe_iff.mpr h1
    simp only [Ideal.cmp, c0, c1, decide_true]
    rfl

/-- The scale and its inverse when the exponent field found is `n + 127`. -/
theorem of_search {q : EReal} (n : ℤ) (h0 : -126 ≤ n) (h1 : n ≤ 125) (hs : search q = BitVec.ofNat 32 (n + 127).toNat)
    (hq : ¬ Ideal.ofBits .f32 0x7E800000#32 ≤ q) :
    kernelScale q = (((2 : ℝ) ^ (n + 1) : ℝ) : EReal) ∧ kernelInv q = (((2 : ℝ) ^ (-(n + 1)) : ℝ) : EReal) := by
  obtain ⟨m, hm⟩ : ∃ m : ℕ, n + 127 = m := ⟨(n + 127).toNat, by omega⟩
  have hn : n = (m : ℤ) - 127 := by omega
  subst hn
  have hm1 : 1 ≤ m := by omega
  have hm2 : m ≤ 252 := by omega
  have hs' : search q = BitVec.ofNat 32 m := by rw [hs]; congr 1; omega
  have hread : read q = BitVec.ofNat 32 m := by
    unfold read
    have : Ideal.cmp .oge q (Ideal.ofBits .f32 0x7E800000#32) = 0#1 := by simp [Ideal.cmp, hq]
    rw [this, hs']
    exact (bits_field m (by omega)).2.2.2
  have hk : kernel q = BitVec.ofNat 32 m := by
    unfold kernel
    rw [hread]
    have : ∀ k : Fin 252, Scalar.select (IntOp.ori (IntOp.cmpi .eq (BitVec.ofNat 32 (k.val + 1)) 0#32)
        (IntOp.cmpi .eq (BitVec.ofNat 32 (k.val + 1)) 255#32)) 126#32 (BitVec.ofNat 32 (k.val + 1))
        = BitVec.ofNat 32 (k.val + 1) := by decide +kernel
    have h := this ⟨m - 1, by omega⟩
    simp only [show m - 1 + 1 = m by omega] at h
    exact h
  constructor
  · unfold kernelScale
    rw [hk, show IntOp.addi (BitVec.ofNat 32 m) 1#32 = BitVec.ofNat 32 (m + 1) from (BitVec.ofNat_add ..).symm,
      field_normal (m + 1) (by omega) (by omega)]
    congr 2; push_cast; ring
  · unfold kernelInv
    have hsub : IntOp.subi 253#32 (BitVec.ofNat 32 m) = BitVec.ofNat 32 (253 - m) := by
      unfold IntOp.subi
      apply BitVec.eq_of_toNat_eq
      rw [BitVec.toNat_sub]
      simp only [BitVec.toNat_ofNat]
      omega
    rw [hk, hsub, field_normal (253 - m) (by omega) (by omega)]
    congr 2; push_cast [show m ≤ 253 by omega]; ring

/-- The scale and its inverse are one when the exponent field read is zero's or infinity's. -/
theorem of_read {q : EReal} (h : read q = 0#32 ∨ read q = 255#32) : kernelScale q = 1 ∧ kernelInv q = 1 := by
  have h1 : field (BitVec.ofNat 32 127) = 1 := by
    rw [field_normal 127 (by norm_num) (by norm_num)]; norm_num
  have hk : kernel q = 126#32 := by
    unfold kernel
    rcases h with h | h <;> rw [h] <;> decide +kernel
  constructor
  · unfold kernelScale; rw [hk]; exact h1
  · unfold kernelInv; rw [hk]; exact h1

/-- **The scale and its inverse.** The kernel's are the reference's at every extended real. -/
theorem kernel_eq_reference (q : EReal) : kernelScale q = referenceScale q ∧ kernelInv q = referenceInv q := by
  have out (h : ¬ ((((2 : ℝ) ^ (-126 : ℤ) : ℝ) : EReal) ≤ q ∧ q < (((2 : ℝ) ^ (126 : ℤ) : ℝ) : EReal)))
      (hr : read q = 0#32 ∨ read q = 255#32) : kernelScale q = referenceScale q ∧ kernelInv q = referenceInv q := by
    have he : reference q = 0 := by
      unfold reference
      rw [lit_min, lit_max, Gelu.lit_zero]
      have : IntOp.andi (Ideal.cmp .oge q (((2 : ℝ) ^ (-126 : ℤ) : ℝ) : EReal))
          (Ideal.cmp .olt q (((2 : ℝ) ^ (126 : ℤ) : ℝ) : EReal)) = 0#1 := by
        by_cases ha : (((2 : ℝ) ^ (-126 : ℤ) : ℝ) : EReal) ≤ q
        · have hb : ¬ q < (((2 : ℝ) ^ (126 : ℤ) : ℝ) : EReal) := fun hb => h ⟨ha, hb⟩
          simp only [Ideal.cmp, ha, hb]; decide
        · simp only [Ideal.cmp, ha]; simp [IntOp.andi]
      rw [this]; rfl
    have h01 : Ideal.exp2 0 = 1 := by
      rw [← EReal.coe_zero, Ideal.exp2_coe]; simp
    unfold referenceScale referenceInv
    rw [he, Gelu.lit_zero, sub_zero, h01]
    exact of_read hr
  have big (h : (((2 : ℝ) ^ (126 : ℤ) : ℝ) : EReal) ≤ q) : read q = 255#32 := by
    unfold read
    rw [lit_max]
    have : Ideal.cmp .oge q (((2 : ℝ) ^ (126 : ℤ) : ℝ) : EReal) = 1#1 := by
      simp only [Ideal.cmp, h, decide_true]; rfl
    rw [this, show Scalar.select 1#1 255#32 (search q) = 255#32 from rfl]; decide +kernel
  have small (h : ¬ (((2 : ℝ) ^ (-126 : ℤ) : ℝ) : EReal) ≤ q) : read q = 0#32 := by
    have hlt : q < (((2 : ℝ) ^ (-126 : ℤ) : ℝ) : EReal) := lt_of_not_ge h
    have hs : search q = BitVec.ofNat 32 0 := by
      apply search_eq (by omega)
      intro c h0 h1
      constructor
      · intro hc
        exfalso
        by_cases hc' : c ≤ 254
        · rw [field_normal c h0 hc'] at hc
          have := lt_of_le_of_lt hc hlt
          rw [EReal.coe_lt_coe_iff] at this
          have := (zpow_lt_zpow_iff_right₀ (by norm_num : (1 : ℝ) < 2)).mp this
          omega
        · obtain rfl : c = 255 := by omega
          rw [field_top] at hc
          exact absurd (lt_of_le_of_lt hc hlt) (by simp)
      · omega
    unfold read
    have hb : ¬ Ideal.ofBits .f32 0x7E800000#32 ≤ q := by
      rw [lit_max]
      intro hb
      have := lt_of_le_of_lt hb hlt
      rw [EReal.coe_lt_coe_iff] at this
      have := (zpow_lt_zpow_iff_right₀ (by norm_num : (1 : ℝ) < 2)).mp this
      omega
    have : Ideal.cmp .oge q (Ideal.ofBits .f32 0x7E800000#32) = 0#1 := by simp [Ideal.cmp, hb]
    rw [this, hs]; decide +kernel
  by_cases h0 : (((2 : ℝ) ^ (-126 : ℤ) : ℝ) : EReal) ≤ q
  · by_cases h1 : q < (((2 : ℝ) ^ (126 : ℤ) : ℝ) : EReal)
    · induction q with
      | bot => exact absurd h0 (by simp)
      | top => exact absurd h1 (by simp)
      | coe r =>
        obtain ⟨n, hn0, hn1, hs, hr⟩ := in_range r (by exact_mod_cast h0) (by exact_mod_cast h1)
        obtain ⟨k0, k1⟩ := of_search n hn0 hn1 hs (by rw [lit_max]; exact not_le.mpr h1)
        have e0 : Real.rpow 2 (n + 1 : ℝ) = (2 : ℝ) ^ (n + 1) := by
          show (2 : ℝ) ^ (n + 1 : ℝ) = _
          rw [← Real.rpow_intCast]; congr 1; push_cast; ring
        have e1 : Real.rpow 2 (0 - (n + 1 : ℝ)) = (2 : ℝ) ^ (-(n + 1)) := by
          show (2 : ℝ) ^ (0 - (n + 1 : ℝ)) = _
          rw [← Real.rpow_intCast]; congr 1; push_cast; ring
        rw [k0, k1]
        unfold referenceScale referenceInv
        rw [hr, Gelu.lit_zero, ← EReal.coe_zero, ← EReal.coe_sub, Ideal.exp2_coe, Ideal.exp2_coe, e0, e1]
        exact ⟨rfl, rfl⟩
    · exact out (fun h => h1 h.2) (.inr (big (not_lt.mp h1)))
  · exact out (fun h => h0 h.1) (.inl (small h0))

end Cert.Exponent
-- ==== Proof.Math.Linear.lean ====
module

public import proofs.«01_k».proof.Proof.Math.Gelu
public import proofs.«01_k».proof.Proof.Math.Exponent
public import Idealize.ShloMosaic.Lib.MatmulPlain

/-! # The problem over the extended reals, one element at a time

`act` is GELU of the scaled product plus bias, `scale` the power of two of a row, `code` the clipped quotient. Stated
for any numbers of rows and columns, so that a block of the arrays and the whole arrays are two instances. -/

@[expose] public section

noncomputable section

namespace Cert.Linear

open Idealize.ShloMosaic
open Idealize.ShloMosaic.ValueIdx (ix2)
open scoped BigOperators

variable {M N : ℕ}
variable (x : (⟨2, ![M, 16384]⟩ : Shape).Idx → EReal) (xs : (⟨2, ![M, 1]⟩ : Shape).Idx → EReal)
variable (w : (⟨2, ![16384, N]⟩ : Shape).Idx → EReal) (ws b : (⟨2, ![1, N]⟩ : Shape).Idx → EReal)

/-- The scaled product plus bias, at row `r` and column `c`. -/
def lin (r : Fin M) (c : Fin N) : EReal :=
  (Ideal.ofBits .f32 0x00000000#32 + ∑ k : Fin 16384, x (ix2 r k) * w (ix2 k c)) * xs (ix2 r 0) * ws (ix2 0 c) + b (ix2 0 c)

/-- The activation at row `r` and column `c`. -/
def act (r : Fin M) (c : Fin N) : EReal := Gelu.reference (lin x xs w ws b r c)

/-- The largest magnitude of an activation of row `r`. -/
def rowMax (r : Fin M) : EReal :=
  (Finset.univ : Finset (Fin N)).fold max (Ideal.ofBits .f32 0xFF800000#32) fun c => Gelu.abs' (act x xs w ws b r c)

/-- The row maximum over the largest code. -/
def quot (r : Fin M) : EReal := rowMax x xs w ws b r * Ideal.ofBits .f32 0x3B124925#32

/-- The scale of row `r`. -/
def scale (r : Fin M) : EReal := Exponent.referenceScale (quot x xs w ws b r)

/-- The code at row `r` and column `c`. -/
def code (r : Fin M) (c : Fin N) : EReal :=
  min (Ideal.ofBits .f32 0x43E00000#32)
    (max (Ideal.ofBits .f32 0xC3E00000#32) (act x xs w ws b r c * Exponent.referenceInv (quot x xs w ws b r)))

/-- The array of all codes. -/
def codes : (⟨2, ![M, N]⟩ : Shape).Idx → EReal := fun y => code x xs w ws b (y 0) (y 1)

/-- The column of all scales. -/
def scales : (⟨2, ![M, 1]⟩ : Shape).Idx → EReal := fun y => scale x xs w ws b (y 0)

/-- The pattern a maximum starts from is below everything. -/
theorem lit_bot : Ideal.ofBits .f32 0xFF800000#32 = ⊥ := by
  simp [Ideal.ofBits, Ideal.ieee]

/-- The row maximum is at most `z` exactly when every magnitude of the row is. -/
theorem rowMax_le (r : Fin M) (z : EReal) : rowMax x xs w ws b r ≤ z ↔ ∀ c, Gelu.abs' (act x xs w ws b r c) ≤ z := by
  unfold rowMax
  rw [Finset.fold_max_le, lit_bot]
  simp

end Cert.Linear

end
-- ==== Proof.KernelIdeal.Tile.lean ====
module

public import proofs.«01_k».proof.Proof.KernelIdeal.Payloads
public import proofs.«01_k».proof.Proof.Math.Linear
public import Idealize.ShloMosaic.Lib.Pipeline.Value

/-! # One tile of the kernel over the extended reals, one element at a time -/

@[expose] public section

set_option maxRecDepth 16384

noncomputable section

namespace Cert.KernelIdeal.Gen

open Idealize.ShloMosaic Idealize.SL.Sem
open Idealize.ShloMosaic.ValueIdx (ix2)
open scoped BigOperators

variable (x0 : Vec Ideal S512x16384 .fp8e4m3) (x1 : Vec Ideal S512x1 .f32) (x2 : Vec Ideal S16384x512 .fp8e4m3) (x3 : Vec Ideal S1x512 .f32) (x4 : Vec Ideal S1x512 .bf16)

/-- The kernel's named constant over the extended reals. -/
theorem named_eq : Named.named (F := Ideal) κ "neg_half_log2e" (φ := .f32) 0xBF38AA3B#32 = (((-1 / 2) * (Real.log 2)⁻¹ : ℝ) : EReal) := rfl

/-- A one-column vector broadcast along the columns. -/
theorem bcast_col (v : FVec Ideal S512x1 .f32) (a b : Fin 512) :
    broadcastTo S512x512 v broadcasts_S512x1_S512x512 (ix2 a b) = v (ix2 a 0) := by
  refine broadcastTo_apply v _ _ _ fun e => ?_
  match e with
  | ⟨0, _⟩ => exact (if_neg (show ¬(512 = 1) by omega)).symm
  | ⟨1, _⟩ => exact (if_pos rfl).symm

/-- A one-row vector broadcast along the rows. -/
theorem bcast_row (v : FVec Ideal S1x512 .f32) (a b : Fin 512) :
    broadcastTo S512x512 v broadcasts_S1x512_S512x512 (ix2 a b) = v (ix2 0 b) := by
  refine broadcastTo_apply v _ _ _ fun e => ?_
  match e with
  | ⟨0, _⟩ => exact (if_pos rfl).symm
  | ⟨1, _⟩ => exact (if_neg (show ¬(512 = 1) by omega)).symm

/-- The scaled product plus bias, of one tile. -/
theorem h_apply (a b : Fin 512) : k0_pay14 x0 x2 x1 x3 x4 (ix2 a b) = Linear.lin x0 x1 x2 x3 x4 a b := by
  unfold k0_pay14 Linear.lin
  simp only [shapeCast_self]
  refine congrArg₂ (· + ·) (congrArg₂ (· * ·) (congrArg₂ (· * ·) ?_ (bcast_col x1 a b)) (bcast_row x3 a b)) (bcast_row _ a b)
  exact Ideal.matmul_plain_apply none x0 x2 _ a b

/-- The activation of one tile, before its reshape. -/
theorem g_apply (y : S512x512.Idx) :
    k0_pay1 (k0_pay14 x0 x2 x1 x3 x4) (k0_pay15 x0 x2 x1 x3 x4) (k0_pay16 x0 x2 x1 x3 x4) (k0_pay17 x0 x2 x1 x3 x4) (Scalar.ofBits .f32 0x3DD814ED#32) y
      = Gelu.kernel (k0_pay14 x0 x2 x1 x3 x4 y) := by
  unfold k0_pay1 k0_pay17 k0_pay16 k0_pay15
  generalize k0_pay14 x0 x2 x1 x3 x4 = H
  rw [named_eq]
  dsimp only
  unfold Gelu.kernel Gelu.horner Gelu.hornerHead Gelu.arg Gelu.abs'
  rfl

/-- The activations of one tile, before their reshape. -/
def gRow (x0 : Vec Ideal S512x16384 .fp8e4m3) (x1 : Vec Ideal S512x1 .f32) (x2 : Vec Ideal S16384x512 .fp8e4m3) (x3 : Vec Ideal S1x512 .f32) (x4 : Vec Ideal S1x512 .bf16) : FVec Ideal S512x512 .f32 :=
  k0_pay1 (k0_pay14 x0 x2 x1 x3 x4) (k0_pay15 x0 x2 x1 x3 x4) (k0_pay16 x0 x2 x1 x3 x4) (k0_pay17 x0 x2 x1 x3 x4) (Scalar.ofBits .f32 0x3DD814ED#32)

/-- Element by element they are the problem's activations of the tile. -/
theorem gRow_apply (a b : Fin 512) : gRow x0 x1 x2 x3 x4 (ix2 a b) = Linear.act x0 x1 x2 x3 x4 a b := by
  unfold gRow Linear.act
  rw [g_apply, h_apply, Gelu.kernel_eq_reference]

/-- The row maxima of one tile. -/
theorem tileMax_apply (a : Fin 512) (z : EReal) :
    firstMax x0 x1 x2 x3 x4 (ix2 a 0) ≤ z ↔ ∀ b : Fin 512, Gelu.abs' (Linear.act x0 x1 x2 x3 x4 a b) ≤ z := by
  have e : firstMax x0 x1 x2 x3 x4 (ix2 a 0)
      = (Finset.univ : Finset (Fin 512)).fold max (Ideal.ofBits .f32 0xFF800000#32) fun b => Gelu.abs' (Linear.act x0 x1 x2 x3 x4 a b) := by
    unfold firstMax k0_pay4 k0_pay3
    rw [shapeCast_self]
    dsimp only
    rw [shapeCast_apply _ _ (ix2 a 0) (ValueIdx.ix1 a) (by rw [Shape.rowMajor_val_one, Shape.rowMajor_val_two]; simp)]
    refine (Ideal.multiReduction_maximumf_single _ _ _ _ _ (ValueIdx.ix1 a)).trans ?_
    refine congrArg (fun f => (Finset.univ : Finset (Fin 512)).fold max (Ideal.ofBits .f32 0xFF800000#32) f) (funext fun b => ?_)
    have e : reduces_S512x512_S512.lift (ValueIdx.ix1 a) b = ix2 a b := by
      funext d
      match d with
      | ⟨0, _⟩ => rfl
      | ⟨1, _⟩ => rfl
    exact (congrArg (fun y => Gelu.abs' (gRow x0 x1 x2 x3 x4 y)) e).trans (congrArg Gelu.abs' (gRow_apply x0 x1 x2 x3 x4 a b))
  rw [e, Finset.fold_max_le, Linear.lit_bot]
  simp

/-- The running maximum continued over one more tile. -/
theorem nextMax_apply (s : Vec Ideal S512x1 .f32) (a : Fin 512) :
    nextMax x0 x1 x2 x3 x4 s (ix2 a 0) = max (s (ix2 a 0)) (firstMax x0 x1 x2 x3 x4 (ix2 a 0)) := by
  unfold nextMax firstMax k0_pay5 k0_pay4
  rw [shapeCast_self, shapeCast_self]
  rfl

/-- One step of the bisection for all rows. -/
def vstep (q : FVec Ideal S512x1 .f32) (w : BitVec 32) (b : IVec S512x1 32) : IVec S512x1 32 :=
  select (cmpf .oge q (bitcastToFloat .f32 (shli (addi b (broadcast S512x1 w)) (broadcast S512x1 23#32)))) (addi b (broadcast S512x1 w)) b

/-- It is the step of each row. -/
theorem vstep_apply (q : FVec Ideal S512x1 .f32) (w : BitVec 32) (b : IVec S512x1 32) (y : S512x1.Idx) :
    vstep q w b y = Exponent.step (q y) w (b y) := rfl

/-- The first five steps. -/
theorem pay8_eq (s : Vec Ideal S512x1 .f32) : k0_pay8 s
    = vstep (k0_pay7 s) 8#32 (vstep (k0_pay7 s) 16#32 (vstep (k0_pay7 s) 32#32 (vstep (k0_pay7 s) 64#32 (vstep (k0_pay7 s) 128#32 (broadcast S512x1 0#32))))) := by
  unfold k0_pay8
  generalize k0_pay7 s = q
  rfl

/-- The exponent field of a row, infinity's and zero's replaced. -/
def vfield (q : FVec Ideal S512x1 .f32) (b : IVec S512x1 32) : IVec S512x1 32 :=
  let r := shrui (shli (select (cmpf .oge q (broadcast S512x1 (Scalar.ofBits .f32 0x7E800000#32))) (broadcast S512x1 255#32) b) (broadcast S512x1 23#32)) (broadcast S512x1 23#32)
  select (ori (cmpi .eq r (broadcast S512x1 0#32)) (cmpi .eq r (broadcast S512x1 255#32))) (broadcast S512x1 126#32) r

/-- The last three steps, and the replacement. -/
theorem pay11_eq (q : FVec Ideal S512x1 .f32) (v : IVec S512x1 32) :
    k0_pay11 q v (addi v (broadcast S512x1 4#32)) (bitcastToFloat .f32 (shli (addi v (broadcast S512x1 4#32)) (broadcast S512x1 23#32)))
      = vfield q (vstep q 1#32 (vstep q 2#32 (vstep q 4#32 v))) := rfl

/-- The exponent field the scale of a row is made from. -/
theorem field_apply (s : Vec Ideal S512x1 .f32) (y : S512x1.Idx) :
    k0_pay11 (k0_pay7 s) (k0_pay8 s) (k0_pay9 s) (k0_pay10 s) y = Exponent.kernel (s y * Ideal.ofBits .f32 0x3B124925#32) := by
  refine (congrFun (pay11_eq (k0_pay7 s) (k0_pay8 s)) y).trans ?_
  have e : vstep (k0_pay7 s) 1#32 (vstep (k0_pay7 s) 2#32 (vstep (k0_pay7 s) 4#32 (k0_pay8 s))) y = Exponent.search (s y * Ideal.ofBits .f32 0x3B124925#32) := by
    rw [pay8_eq]
    simp only [vstep_apply]
    rfl
  generalize vstep (k0_pay7 s) 1#32 (vstep (k0_pay7 s) 2#32 (vstep (k0_pay7 s) 4#32 (k0_pay8 s))) = b at e ⊢
  unfold Exponent.kernel Exponent.read
  rw [← e]
  rfl

/-- The scale of a row, from its maximum. -/
theorem scaleOf_apply (s : Vec Ideal S512x1 .f32) (y : S512x1.Idx) :
    scaleOf s y = Exponent.referenceScale (s y * Ideal.ofBits .f32 0x3B124925#32) := by
  rw [← (Exponent.kernel_eq_reference _).1]
  exact congrArg (fun b => Exponent.field (IntOp.addi b 1#32)) (field_apply s y)

/-- The inverse scale of a row, from its maximum. -/
theorem invOf_apply (s : Vec Ideal S512x1 .f32) (y : S512x1.Idx) :
    invOf s y = Exponent.referenceInv (s y * Ideal.ofBits .f32 0x3B124925#32) := by
  rw [← (Exponent.kernel_eq_reference _).2]
  exact congrArg (fun b => Exponent.field (IntOp.subi 253#32 b)) (field_apply s y)

/-- The tile as stored, element by element. -/
theorem gTile_apply (y : S1x512x512.Idx) (a b : Fin 512) (ha : (y 1).val = a.val) (hb : (y 2).val = b.val) :
    gTile x0 x1 x2 x3 x4 y = Linear.act x0 x1 x2 x3 x4 a b := by
  rw [← gRow_apply]
  unfold gTile k0_pay2
  refine shapeCast_apply _ _ y (ix2 a b) ?_
  rw [Shape.rowMajor_val_two, Shape.rowMajor_val_three]
  have h0 : (y 0).val = 0 := by have : (y 0).val < 1 := (y 0).isLt; omega
  show a.val * 512 + b.val = ((y 0).val * 512 + (y 1).val) * 512 + (y 2).val
  rw [h0, ha, hb]
  omega

/-- The codes of one column block, element by element. -/
theorem pay6_apply (inv : FVec Ideal S512x1 .f32) (g : Vec Ideal S1x512x512 .f32) (a b : Fin 512) :
    k0_pay6 inv g (ix2 a b) = min (Ideal.ofBits .f32 0x43E00000#32)
      (max (Ideal.ofBits .f32 0xC3E00000#32) (g (ValueIdx.ix3 0 a b) * inv (ix2 a 0))) := by
  have e1 : shapeCast S512x512 g shapeCasts_S1x512x512_S512x512 (ix2 a b) = g (ValueIdx.ix3 0 a b) := by
    refine shapeCast_apply _ _ (ix2 a b) (ValueIdx.ix3 0 a b) ?_
    rw [Shape.rowMajor_val_two, Shape.rowMajor_val_three]
    show (0 * 512 + a.val) * 512 + b.val = a.val * 512 + b.val
    omega
  unfold k0_pay6
  show min _ (max _ (shapeCast S512x512 g shapeCasts_S1x512x512_S512x512 (ix2 a b) * broadcastTo S512x512 inv broadcasts_S512x1_S512x512 (ix2 a b))) = _
  rw [e1, bcast_col]
  rfl

end Cert.KernelIdeal.Gen

end
-- ==== Proof.KernelIdeal.Blocks.lean ====
module

public import proofs.«01_k».proof.Proof.KernelIdeal.Values
public import proofs.«01_k».proof.Proof.KernelIdeal.Tile

/-! # The kernel's blocks as parts of the arrays

Grid point `t` works on rows `512 * (t / 13)` and on, and on columns `512 * (t % 13)` and on. What it computes of its
blocks is what the problem states of the whole arrays there; the running row maximum, after the last column block of a
row block, is the maximum of the whole row. -/

@[expose] public section

set_option maxRecDepth 16384

noncomputable section

namespace Cert.KernelIdeal.Gen

open Idealize.ShloMosaic Idealize.ShloMosaic.TcCoe Idealize.SL.Sem
open Idealize.ShloMosaic.ValueIdx (ix2 ix3)
open scoped BigOperators

/-! ## Where a block lies -/

/-- The row block of a point. -/
theorem coord0 (t : Fin cfg0.N) : (grid0.coords t 0).val = t.val / 13 := by
  have e0 : (grid0.coords t 0).val = t.val / 13 % 12 := Pipeline.Grid.coords_val t 0 (by decide) rfl
  have h := lt156 t
  omega

/-- A coordinate as the index maps compute it. -/
theorem toNat_coord (n : ℕ) (h : n < 156) : (BitVec.ofNat 32 n).toNat = n := by
  rw [BitVec.toNat_ofNat]; omega

theorem coord0_toNat (t : Fin cfg0.N) : (BitVec.ofNat 32 (grid0.coords t 0).val).toNat = t.val / 13 := by
  have h := lt156 t
  rw [coord0, toNat_coord _ (by omega)]

theorem coord1_toNat (t : Fin cfg0.N) : (BitVec.ofNat 32 (grid0.coords t 1).val).toNat = t.val % 13 := by
  have h := lt156 t
  rw [coord1, toNat_coord _ (by omega)]

/-- Row `a` of point `t`'s row block. -/
def row (t : Fin cfg0.N) (a : Fin 512) : Fin 6144 := ⟨512 * (t.val / 13) + a.val, by have h := lt156 t; have ha := a.isLt; omega⟩

/-- Column `b` of column block `k`. -/
def col (k : Fin 13) (b : Fin 512) : Fin 6656 := ⟨512 * k.val + b.val, by have hk := k.isLt; have hb := b.isLt; omega⟩

/-- The column block of point `t`. -/
def colBlock (t : Fin cfg0.N) : Fin 13 := ⟨t.val % 13, Nat.mod_lt _ (by omega)⟩

/-- The points of one row block have the same rows. -/
theorem row_pointOf (n : ℕ) (hn : n < cfg0.N) (k : Fin 13) (a : Fin 512) : row (pointOf n hn k) a = row ⟨n, hn⟩ a := by
  have hk := k.isLt
  exact Fin.ext (by show 512 * ((13 * (n / 13) + k.val) / 13) + a.val = 512 * (n / 13) + a.val; omega)

/-- The point of column block `k` has that column block. -/
theorem colBlock_pointOf (n : ℕ) (hn : n < cfg0.N) (k : Fin 13) : colBlock (pointOf n hn k) = k := by
  have hk := k.isLt
  exact Fin.ext (by show (13 * (n / 13) + k.val) % 13 = k.val; omega)

/-- Every column is in a column block. -/
theorem col_surj (j : Fin 6656) : ∃ k b, col k b = j := by
  have hj := j.isLt
  exact ⟨⟨j.val / 512, by omega⟩, ⟨j.val % 512, by omega⟩, Fin.ext (by show 512 * (j.val / 512) + j.val % 512 = j.val; omega)⟩

variable (m : (ℓ : Loc nD τ sig) → Buf (Elt Ideal) ℓ)

/-- The block of the product's left operand. -/
theorem iblk0 (c : Dev nD) (t : Fin cfg0.N) (a : Fin 512) (k : Fin 16384) :
    (iblk m c 0 t : Vec Ideal S512x16384 .fp8e4m3) (ix2 a k) = V m c main_v0 (ix2 (row t a) k) := by
  show V m c main_v0 ((win0_0.rect t).emb (ix2 a k)) = _
  refine congrArg _ (Shape.idx_ext₂ ?_ ?_)
  · refine (win0_0.rect_emb_val t (ix2 a k) 0).trans ?_
    show (BitVec.ofNat 32 (grid0.coords t 0).val).toNat * 512 + a.val = 512 * (t.val / 13) + a.val
    rw [coord0_toNat]; omega
  · exact win0_0.rect_emb_val_of_index_zero t 1 rfl (ix2 a k)

/-- The block of the row scales. -/
theorem iblk1 (c : Dev nD) (t : Fin cfg0.N) (a : Fin 512) :
    (iblk m c 1 t : Vec Ideal S512x1 .f32) (ix2 a 0) = V m c main_v1 (ix2 (row t a) 0) := by
  show V m c main_v1 ((win0_1.rect t).emb (ix2 a 0)) = _
  refine congrArg _ (Shape.idx_ext₂ ?_ ?_)
  · refine (win0_1.rect_emb_val t (ix2 a 0) 0).trans ?_
    show (BitVec.ofNat 32 (grid0.coords t 0).val).toNat * 512 + a.val = 512 * (t.val / 13) + a.val
    rw [coord0_toNat]; omega
  · exact win0_1.rect_emb_val_of_index_zero t 1 rfl (ix2 a 0)

/-- The block of the product's right operand. -/
theorem iblk2 (c : Dev nD) (t : Fin cfg0.N) (k : Fin 16384) (b : Fin 512) :
    (iblk m c 2 t : Vec Ideal S16384x512 .fp8e4m3) (ix2 k b) = V m c main_arg2 (ix2 k (col (colBlock t) b)) := by
  show V m c main_arg2 ((win0_2.rect t).emb (ix2 k b)) = _
  refine congrArg _ (Shape.idx_ext₂ ?_ ?_)
  · exact win0_2.rect_emb_val_of_index_zero t 0 rfl (ix2 k b)
  · refine (win0_2.rect_emb_val t (ix2 k b) 1).trans ?_
    show (BitVec.ofNat 32 (grid0.coords t 1).val).toNat * 512 + b.val = 512 * (t.val % 13) + b.val
    rw [coord1_toNat]; omega

/-- The block of the column scales. -/
theorem iblk3 (c : Dev nD) (t : Fin cfg0.N) (b : Fin 512) :
    (iblk m c 3 t : Vec Ideal S1x512 .f32) (ix2 0 b) = V m c main_v2 (ix2 0 (col (colBlock t) b)) := by
  show V m c main_v2 ((win0_3.rect t).emb (ix2 0 b)) = _
  refine congrArg _ (Shape.idx_ext₂ ?_ ?_)
  · exact win0_3.rect_emb_val_of_index_zero t 0 rfl (ix2 0 b)
  · refine (win0_3.rect_emb_val t (ix2 0 b) 1).trans ?_
    show (BitVec.ofNat 32 (grid0.coords t 1).val).toNat * 512 + b.val = 512 * (t.val % 13) + b.val
    rw [coord1_toNat]; omega

/-- The block of the bias. -/
theorem iblk4 (c : Dev nD) (t : Fin cfg0.N) (b : Fin 512) :
    (iblk m c 4 t : Vec Ideal S1x512 .bf16) (ix2 0 b) = V m c main_v3 (ix2 0 (col (colBlock t) b)) := by
  show V m c main_v3 ((win0_4.rect t).emb (ix2 0 b)) = _
  refine congrArg _ (Shape.idx_ext₂ ?_ ?_)
  · exact win0_4.rect_emb_val_of_index_zero t 0 rfl (ix2 0 b)
  · refine (win0_4.rect_emb_val t (ix2 0 b) 1).trans ?_
    show (BitVec.ofNat 32 (grid0.coords t 1).val).toNat * 512 + b.val = 512 * (t.val % 13) + b.val
    rw [coord1_toNat]; omega

/-! ## The activations of a block -/

/-- The problem's activation at a row and a column of the whole arrays. -/
def actV (c : Dev nD) (r : Fin 6144) (j : Fin 6656) : EReal :=
  Linear.act (V m c main_v0) (V m c main_v1) (V m c main_arg2) (V m c main_v2) (V m c main_v3) r j

/-- A block's activations are the whole arrays' there. -/
theorem act_block (c : Dev nD) (t : Fin cfg0.N) (a b : Fin 512) :
    Linear.act (M := 512) (N := 512) (iblk m c 0 t) (iblk m c 1 t) (iblk m c 2 t) (iblk m c 3 t) (iblk m c 4 t) a b = actV m c (row t a) (col (colBlock t) b) := by
  unfold actV Linear.act Linear.lin
  refine congrArg Gelu.reference ?_
  refine congrArg₂ (· + ·) (congrArg₂ (· * ·) (congrArg₂ (· * ·) (congrArg₂ (· + ·) rfl ?_) (iblk1 m c t a)) (iblk3 m c t b)) (iblk4 m c t b)
  exact Finset.sum_congr rfl fun k _ => congrArg₂ (· * ·) (iblk0 m c t a k) (iblk2 m c t k b)

/-- The tile of a point, element by element. -/
theorem gAt_apply (c : Dev nD) (t : Fin cfg0.N) (a b : Fin 512) : gAt m c t (ix3 0 a b) = actV m c (row t a) (col (colBlock t) b) := by
  unfold gAt
  exact (gTile_apply _ _ _ _ _ (ix3 0 a b) a b rfl rfl).trans (act_block m c t a b)

/-! ## The row maximum -/

/-- The maxima of a point's own tile. -/
theorem tile_le (c : Dev nD) (t : Fin cfg0.N) (a : Fin 512) (z : EReal) :
    firstMax (iblk m c 0 t) (iblk m c 1 t) (iblk m c 2 t) (iblk m c 3 t) (iblk m c 4 t) (ix2 a 0) ≤ z
      ↔ ∀ b, Gelu.abs' (actV m c (row t a) (col (colBlock t) b)) ≤ z :=
  (tileMax_apply _ _ _ _ _ a z).trans (forall_congr' fun b => by rw [act_block])

/-- The running maximum after point `n` bounds the column blocks so far. -/
theorem maxAt_le (c : Dev nD) (a : Fin 512) (z : EReal) : ∀ (n : ℕ) (hn : n < cfg0.N),
    maxAt m c n hn (ix2 a 0) ≤ z ↔ ∀ k : Fin 13, k.val ≤ n % 13 → ∀ b, Gelu.abs' (actV m c (row ⟨n, hn⟩ a) (col k b)) ≤ z := by
  intro n
  induction n with
  | zero =>
    intro hn
    refine (iff_of_eq (congrArg (fun v => v (ix2 a 0) ≤ z) (maxAt_first m c ⟨0, hn⟩ rfl))).trans ((tile_le m c ⟨0, hn⟩ a z).trans ?_)
    refine ⟨fun h k hk b => ?_, fun h b => h (colBlock ⟨0, hn⟩) (Nat.le_refl _) b⟩
    have e : k = colBlock ⟨0, hn⟩ := Fin.ext (Nat.le_zero.mp hk)
    rw [e]; exact h b
  | succ n ih =>
    intro hn
    by_cases h0 : (n + 1) % 13 = 0
    · refine (iff_of_eq (congrArg (fun v => v (ix2 a 0) ≤ z) (maxAt_first m c ⟨n + 1, hn⟩ h0))).trans ((tile_le m c ⟨n + 1, hn⟩ a z).trans ?_)
      refine ⟨fun h k hk b => ?_, fun h b => h (colBlock ⟨n + 1, hn⟩) (Nat.le_refl _) b⟩
      have e : k = colBlock ⟨n + 1, hn⟩ := Fin.ext (show k.val = (n + 1) % 13 by omega)
      rw [e]; exact h b
    · have hn' : n < cfg0.N := Nat.lt_of_succ_lt hn
      have er : row ⟨n, hn'⟩ a = row ⟨n + 1, hn⟩ a :=
        Fin.ext (by show 512 * (n / 13) + a.val = 512 * ((n + 1) / 13) + a.val; omega)
      refine (iff_of_eq (congrArg (fun v => v (ix2 a 0) ≤ z) (maxAt_next m c ⟨n + 1, hn⟩ h0))).trans ?_
      refine (iff_of_eq (congrArg (· ≤ z) (nextMax_apply _ _ _ _ _ _ a))).trans ?_
      refine max_le_iff.trans ((and_congr (ih hn') (tile_le m c ⟨n + 1, hn⟩ a z)).trans ?_)
      rw [er]
      refine ⟨fun h k hk b => ?_, fun h => ⟨fun k hk => h k (by omega), h (colBlock ⟨n + 1, hn⟩) (Nat.le_refl _)⟩⟩
      by_cases e : k.val = (n + 1) % 13
      · have e' : k = colBlock ⟨n + 1, hn⟩ := Fin.ext e
        rw [e']; exact h.2 b
      · exact h.1 k (by omega) b

/-- After the last column block it is the maximum of the whole row. -/
theorem maxAt_last (c : Dev nD) (t : Fin cfg0.N) (ht : t.val % 13 = 12) (a : Fin 512) :
    maxAt m c t.val t.isLt (ix2 a 0)
      = Linear.rowMax (V m c main_v0) (V m c main_v1) (V m c main_arg2) (V m c main_v2) (V m c main_v3) (row t a) := by
  refine eq_of_forall_ge_iff fun z => (maxAt_le m c a z t.val t.isLt).trans (Iff.trans ?_ (Linear.rowMax_le _ _ _ _ _ _ z).symm)
  refine ⟨fun h j => ?_, fun h k _ b => h (col k b)⟩
  obtain ⟨k, b, rfl⟩ := col_surj j
  exact h k (by have := k.isLt; omega) b

/-! ## What the last point of a row block leaves -/

/-- The scales of the row block. -/
theorem scaleAt_apply (c : Dev nD) (t : Fin cfg0.N) (ht : t.val % 13 = 12) (a : Fin 512) :
    scaleAt m c t (ix2 a 0)
      = Linear.scale (V m c main_v0) (V m c main_v1) (V m c main_arg2) (V m c main_v2) (V m c main_v3) (row t a) := by
  unfold scaleAt Linear.scale Linear.quot
  rw [scaleOf_apply, maxAt_last m c t ht a]

/-- The codes of the row block. -/
theorem codesAt_apply (c : Dev nD) (t : Fin cfg0.N) (ht : t.val % 13 = 12) (y : S512x6656.Idx) (a k b) (ha : (y 0).val = a.val)
    (hb : (y 1).val = (col k b).val) :
    codesAt m c t y
      = Linear.code (V m c main_v0) (V m c main_v1) (V m c main_arg2) (V m c main_v2) (V m c main_v3) (row t a) (col k b) := by
  have hc : (col k b).val = 512 * k.val + b.val := rfl
  have hlt := b.isLt
  have ek : blockOf y = k := Fin.ext (show (y 1).val / 512 = k.val by omega)
  have eb : inBlock y = ix2 a b := Shape.idx_ext₂ ha (show (y 1).val % 512 = b.val by omega)
  unfold codesAt codesOf Linear.code Linear.quot
  rw [ek, eb, pay6_apply]
  dsimp only
  rw [gAt_apply, invOf_apply, maxAt_last m c t ht a, row_pointOf, colBlock_pointOf]
  rfl

end Cert.KernelIdeal.Gen

end
-- ==== Proof.KernelIdeal.Arrays.lean ====
module

public import proofs.«01_k».proof.Proof.KernelIdeal.Frame
public import proofs.«01_k».proof.Proof.KernelIdeal.Blocks
public import Idealize.ShloMosaic.Lib.Claim

/-! # The arrays the kernel leaves

The last point of each row block writes back the codes and the scales of its 512 rows; the twelve row blocks make up
the arrays. -/

@[expose] public section

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx (ix2)

variable (m : (ℓ : Loc nD τ sig) → Buf (Elt Ideal) ℓ) (ρ : Dev nD → PrngReg)

/-- The codes of the problem, of the arrays the kernel is entered with. -/
def codesOut (c : Dev nD) : Vec Ideal S6144x6656 .fp8e4m3 := Linear.codes (V m c main_v0) (V m c main_v1) (V m c main_arg2) (V m c main_v2) (V m c main_v3)

/-- The scales of the problem, of the arrays the kernel is entered with. -/
def scalesOut (c : Dev nD) : Vec Ideal S6144x1 .f32 := Linear.scales (V m c main_v0) (V m c main_v1) (V m c main_arg2) (V m c main_v2) (V m c main_v3)

/-- Where an element of a block of codes lies in the array. -/
theorem emb5 (t : Fin cfg0.N) (y : S512x6656.Idx) (a : Fin 512) (ha : (y 0).val = a.val) :
    ((win0_5.rect t).emb y : S6144x6656.Idx) = ix2 (row t a) (y 1) := by
  refine Shape.idx_ext₂ ?_ ?_
  · refine (win0_5.rect_emb_val t y 0).trans ?_
    show (BitVec.ofNat 32 (grid0.coords t 0).val).toNat * 512 + (y 0).val = 512 * (t.val / 13) + a.val
    rw [coord0_toNat, ha]; omega
  · exact win0_5.rect_emb_val_of_index_zero t 1 rfl y

/-- Where an element of a block of scales lies in the array. -/
theorem emb6 (t : Fin cfg0.N) (y : S512x1.Idx) (a : Fin 512) (ha : (y 0).val = a.val) :
    ((win0_6.rect t).emb y : S6144x1.Idx) = ix2 (row t a) (y 1) := by
  refine Shape.idx_ext₂ ?_ ?_
  · refine (win0_6.rect_emb_val t y 0).trans ?_
    show (BitVec.ofNat 32 (grid0.coords t 0).val).toNat * 512 + (y 0).val = 512 * (t.val / 13) + a.val
    rw [coord0_toNat, ha]; omega
  · exact win0_6.rect_emb_val_of_index_zero t 1 rfl y

/-- The last point of a row block writes back its rows of the codes. -/
theorem flushed5 (c : Dev nD) (t : Fin cfg0.N) (ht : t.val % 13 = 12) :
    (dats m 0 c).flushed 5 t = (win0_5.blk t).view.read (Elt Ideal) (codesOut m c) := by
  show (cfg0.win 5).cut (grid0.coords t) ((dats m 0 c).after 5 t) = _
  rw [after0_5]
  funext y
  obtain ⟨k, b, hb⟩ := col_surj (y 1)
  show codesAt m c t y = codesOut m c ((win0_5.rect t).emb y)
  refine (codesAt_apply m c t ht y (y 0) k b rfl (congrArg Fin.val hb.symm)).trans ?_
  rw [hb]
  exact (congrArg (codesOut m c) (emb5 t y (y 0) rfl)).symm

/-- The last point of a row block writes back its rows of the scales. -/
theorem flushed6 (c : Dev nD) (t : Fin cfg0.N) (ht : t.val % 13 = 12) :
    (dats m 0 c).flushed 6 t = (win0_6.blk t).view.read (Elt Ideal) (scalesOut m c) := by
  show (cfg0.win 6).cut (grid0.coords t) ((dats m 0 c).after 6 t) = _
  rw [after0_6]
  funext y
  have h : (y 1).val < 1 := (y 1).isLt
  have e : y = ix2 (y 0) 0 := Shape.idx_ext₂ rfl (show (y 1).val = 0 by omega)
  show scaleAt m c t y = scalesOut m c ((win0_6.rect t).emb y)
  refine (congrArg (scaleAt m c t) e).trans ((scaleAt_apply m c t ht (y 0)).trans ?_)
  exact (congrArg (scalesOut m c) (emb6 t y (y 0) rfl)).symm

/-- The last point of the row block that a row lies in. -/
def lastOf (r : Fin 6144) : Fin cfg0.N :=
  ⟨13 * (r.val / 512) + 12, by have hr := r.isLt; have e : cfg0.N = 156 := N_0; omega⟩

theorem lastOf_mod (r : Fin 6144) : (lastOf r).val % 13 = 12 := by
  show (13 * (r.val / 512) + 12) % 13 = 12
  omega

/-- Where a row lies in its row block. -/
def inRow (r : Fin 6144) : Fin 512 := ⟨r.val % 512, Nat.mod_lt _ (by omega)⟩

/-- A row is in the row block of that point. -/
theorem row_lastOf (r : Fin 6144) : row (lastOf r) (inRow r) = r :=
  Fin.ext (by show 512 * ((13 * (r.val / 512) + 12) / 13) + r.val % 512 = r.val; omega)

/-- The blocks of the codes cover the array. -/
theorem cover5 (i : S6144x6656.Idx) : ∃ t : Fin cfg0.N, (cfg0.win 5).flush t = true ∧ i ∈ ((cfg0.win 5).blk t).view.set := by
  refine ⟨lastOf (i 0), (flush0_5 _).mpr (lastOf_mod _), ?_⟩
  have e : ((win0_5.rect (lastOf (i 0))).emb (ix2 (inRow (i 0)) (i 1) : S512x6656.Idx) : S6144x6656.Idx) = i :=
    (emb5 (lastOf (i 0)) (ix2 (inRow (i 0)) (i 1)) (inRow (i 0)) rfl).trans
      (Shape.idx_ext₂ (congrArg Fin.val (row_lastOf (i 0))) rfl)
  exact Finset.mem_map.mpr ⟨(ix2 (inRow (i 0)) (i 1) : S512x6656.Idx), Finset.mem_univ _, e⟩

/-- The blocks of the scales cover the array. -/
theorem cover6 (i : S6144x1.Idx) : ∃ t : Fin cfg0.N, (cfg0.win 6).flush t = true ∧ i ∈ ((cfg0.win 6).blk t).view.set := by
  refine ⟨lastOf (i 0), (flush0_6 _).mpr (lastOf_mod _), ?_⟩
  have e : ((win0_6.rect (lastOf (i 0))).emb (ix2 (inRow (i 0)) (i 1) : S512x1.Idx) : S6144x1.Idx) = i :=
    (emb6 (lastOf (i 0)) (ix2 (inRow (i 0)) (i 1)) (inRow (i 0)) rfl).trans
      (Shape.idx_ext₂ (congrArg Fin.val (row_lastOf (i 0))) rfl)
  exact Finset.mem_map.mpr ⟨(ix2 (inRow (i 0)) (i 1) : S512x1.Idx), Finset.mem_univ _, e⟩

/-- The codes after the run. -/
theorem final5 (c : Dev nD) : (dats m 0 c).arrAt 5 cfg0.N = codesOut m c :=
  (dats m 0 c).arrAt_eq_of_cover 5 (codesOut m c) (fun t hf => flushed5 m c t ((flush0_5 t).mp hf)) cover5

/-- The scales after the run. -/
theorem final6 (c : Dev nD) : (dats m 0 c).arrAt 6 cfg0.N = scalesOut m c :=
  (dats m 0 c).arrAt_eq_of_cover 6 (scalesOut m c) (fun t hf => flushed6 m c t ((flush0_6 t).mp hf)) cover6

/-! ## The arrays the kernel is entered with, and the run -/

/-- `main_v0` is `main_arg0` reshaped. -/
theorem entry0 (c : Dev nD) : V m c main_v0 = shapeCast S6144x16384 (m ((c : Thread nD τ).loc main_arg0)) shapeCasts_S4x1536x16384_S6144x16384 := by
  show StableHlo.after hostOps0 _ (Proc.devRef .tc main_v0) = _
  after_results
  rfl

/-- `main_v1` is `main_arg1` reshaped. -/
theorem entry1 (c : Dev nD) : V m c main_v1 = shapeCast S6144x1 (m ((c : Thread nD τ).loc main_arg1)) shapeCasts_S4x1536x1_S6144x1 := by
  show StableHlo.after hostOps0 _ (Proc.devRef .tc main_v1) = _
  after_results
  rfl

/-- `main_v2` is `main_arg3` reshaped. -/
theorem entry2 (c : Dev nD) : V m c main_v2 = shapeCast S1x6656 (m ((c : Thread nD τ).loc main_arg3)) shapeCasts_S6656_S1x6656 := by
  show StableHlo.after hostOps0 _ (Proc.devRef .tc main_v2) = _
  after_results
  rfl

/-- `main_v3` is `main_arg4` reshaped. -/
theorem entry3 (c : Dev nD) : V m c main_v3 = shapeCast S1x6656 (m ((c : Thread nD τ).loc main_arg4)) shapeCasts_S6656_S1x6656 := by
  show StableHlo.after hostOps0 _ (Proc.devRef .tc main_v3) = _
  after_results
  rfl

/-- Every execution ends with the problem's codes and scales in the results and the arguments unchanged. -/
theorem results : θ_run defs (onTc (τ := τ) (main (F := Ideal))) ⟨m, fun _ => 0, ρ⟩ (fun r => ∀ c : Dev nD,
      r.2.mem ((c.tc : Thread nD τ).loc main_v4_0) = codesOut m c
      ∧ r.2.mem ((c.tc : Thread nD τ).loc main_v4_1) = scalesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), h.2 c⟩)
    (θ_run_and (run_main m ρ) (frame_of m ρ (dats m) (A_eq m) (run_main m ρ)))

end Cert.KernelIdeal.Gen

end
-- ==== Proof.ReferenceIdeal.Whole.lean ====
module

public import proofs.«01_k».proof.Proof.Gen.ReferenceIdeal.Skeleton
public import proofs.«01_k».proof.Proof.Math.Linear
public import Idealize.ShloMosaic.Lib.Pipeline.Value

/-! # The reference over the extended reals, one element at a time -/

@[expose] public section

set_option maxRecDepth 16384

noncomputable section

namespace Cert.ReferenceIdeal.Gen

open Idealize.ShloMosaic Idealize.SL.Sem
open Idealize.ShloMosaic.ValueIdx (ix2)
open scoped BigOperators

variable (x0 : Vec Ideal S6144x16384 .fp8e4m3) (x1 : Vec Ideal S6144x1 .f32) (x2 : Vec Ideal S16384x6656 .fp8e4m3) (x3 : Vec Ideal S1x6656 .f32) (x4 : Vec Ideal S1x6656 .bf16)

/-- The reference's named constant over the extended reals. -/
theorem named_eq : Named.named (F := Ideal) κ "ln2" (φ := .f32) 0x3F317218#32 = ((Real.log 2 : ℝ) : EReal) := rfl

/-- A one-column vector broadcast along the columns. -/
theorem bcast_col (v : FVec Ideal S6144x1 .f32) (a : Fin 6144) (b : Fin 6656) :
    broadcastTo S6144x6656 v broadcasts_S6144x1_S6144x6656 (ix2 a b) = v (ix2 a 0) := by
  refine broadcastTo_apply v _ _ _ fun e => ?_
  match e with
  | ⟨0, _⟩ => exact (if_neg (show ¬(6144 = 1) by omega)).symm
  | ⟨1, _⟩ => exact (if_pos rfl).symm

/-- A one-row vector broadcast along the rows. -/
theorem bcast_row (v : FVec Ideal S1x6656 .f32) (a : Fin 6144) (b : Fin 6656) :
    broadcastTo S6144x6656 v broadcasts_S1x6656_S6144x6656 (ix2 a b) = v (ix2 0 b) := by
  refine broadcastTo_apply v _ _ _ fun e => ?_
  match e with
  | ⟨0, _⟩ => exact (if_pos rfl).symm
  | ⟨1, _⟩ => exact (if_neg (show ¬(6656 = 1) by omega)).symm

/-- The scaled product plus bias. -/
theorem h_apply (a : Fin 6144) (b : Fin 6656) : k0_pay4 x0 x2 x1 x3 x4 (ix2 a b) = Linear.lin x0 x1 x2 x3 x4 a b := by
  unfold k0_pay4 Linear.lin
  simp only [shapeCast_self]
  refine congrArg₂ (· + ·) (congrArg₂ (· * ·) (congrArg₂ (· * ·) ?_ (bcast_col x1 a b)) (bcast_row x3 a b)) (bcast_row _ a b)
  exact Ideal.matmul_plain_apply none x0 x2 _ a b

/-- The activations. -/
def gAll (x0 : Vec Ideal S6144x16384 .fp8e4m3) (x1 : Vec Ideal S6144x1 .f32) (x2 : Vec Ideal S16384x6656 .fp8e4m3) (x3 : Vec Ideal S1x6656 .f32) (x4 : Vec Ideal S1x6656 .bf16) : FVec Ideal S6144x6656 .f32 :=
  k0_pay12 (k0_pay4 x0 x2 x1 x3 x4) (k0_pay5 x0 x2 x1 x3 x4) (k0_pay6 x0 x2 x1 x3 x4) (k0_pay10 x0 x2 x1 x3 x4) (k0_pay11 x0 x2 x1 x3 x4)

/-- A selection by an ordered comparison, as a condition. -/
theorem select_ge (w x y z : EReal) : Scalar.select (Ideal.cmp .oge x w) y z = if w ≤ x then y else z := by
  by_cases h : w ≤ x <;> simp [Scalar.select, Ideal.cmp, h]

/-- Before the comparison is read, the reference's activation of one element. -/
theorem g_apply (y : S6144x6656.Idx) :
    gAll x0 x1 x2 x3 x4 y = Gelu.reference (k0_pay4 x0 x2 x1 x3 x4 y) := by
  unfold gAll k0_pay12 k0_pay11 k0_pay10 k0_pay9 k0_pay8 k0_pay7 k0_pay6 k0_pay5
  generalize k0_pay4 x0 x2 x1 x3 x4 = H
  unfold Gelu.reference
  rw [← select_ge]
  unfold Gelu.below Gelu.sum Gelu.sumHead Gelu.arg Gelu.abs'
  rfl

/-- Element by element they are the problem's activations. -/
theorem gAll_apply (a : Fin 6144) (b : Fin 6656) : gAll x0 x1 x2 x3 x4 (ix2 a b) = Linear.act x0 x1 x2 x3 x4 a b := by
  rw [g_apply, h_apply]
  rfl

/-- The element that a column adds to a row of the reduction. -/
theorem lift_row (a : Fin 6144) (b : Fin (S6144x6656.size 1)) : reduces_S6144x6656_S6144.lift (ValueIdx.ix1 a) b = ix2 a b := by
  funext d
  match d with
  | ⟨0, _⟩ => rfl
  | ⟨1, _⟩ => rfl

/-- A maximum along the columns, one row at a time. -/
theorem maxRow_apply (v : FVec Ideal S6144x6656 .f32) (a : Fin 6144) :
    multiReduction .maximumf [1] S6144 v 0xFF800000#32 reduces_S6144x6656_S6144 (.inl rfl) rfl (ValueIdx.ix1 a)
      = (Finset.univ : Finset (Fin 6656)).fold max (Ideal.ofBits .f32 0xFF800000#32) fun b => v (ix2 a b) := by
  refine (Ideal.multiReduction_maximumf_single _ _ _ _ _ (ValueIdx.ix1 a)).trans ?_
  exact congrArg (fun f => (Finset.univ : Finset (Fin 6656)).fold max (Ideal.ofBits .f32 0xFF800000#32) f) (funext fun b => congrArg v (lift_row a b))

/-- A column of row values, read back row by row. -/
theorem column_apply (v : FVec Ideal S6144 .f32) (a : Fin 6144) :
    shapeCast S6144x1 v shapeCasts_S6144_S6144x1 (ix2 a 0) = v (ValueIdx.ix1 a) :=
  shapeCast_apply _ _ (ix2 a 0) (ValueIdx.ix1 a) (by rw [Shape.rowMajor_val_one, Shape.rowMajor_val_two]; simp)

/-- The row maxima over the largest code. -/
def qAll (x0 : Vec Ideal S6144x16384 .fp8e4m3) (x1 : Vec Ideal S6144x1 .f32) (x2 : Vec Ideal S16384x6656 .fp8e4m3) (x3 : Vec Ideal S1x6656 .f32) (x4 : Vec Ideal S1x6656 .bf16) : FVec Ideal S6144x1 .f32 :=
  k0_pay13 (k0_pay4 x0 x2 x1 x3 x4) (k0_pay5 x0 x2 x1 x3 x4) (k0_pay6 x0 x2 x1 x3 x4) (k0_pay10 x0 x2 x1 x3 x4) (k0_pay11 x0 x2 x1 x3 x4)

/-- Row by row they are the problem's. -/
theorem qAll_apply (a : Fin 6144) : qAll x0 x1 x2 x3 x4 (ix2 a 0) = Linear.quot x0 x1 x2 x3 x4 a := by
  have e : qAll x0 x1 x2 x3 x4 = fun y => shapeCast S6144x1 (multiReduction .maximumf [1] S6144 (absf (gAll x0 x1 x2 x3 x4)) 0xFF800000#32
      reduces_S6144x6656_S6144 (.inl rfl) rfl) shapeCasts_S6144_S6144x1 y * Ideal.ofBits .f32 0x3B124925#32 := by
    unfold qAll k0_pay13 gAll
    rfl
  rw [e]
  unfold Linear.quot
  refine congrArg (· * Ideal.ofBits .f32 0x3B124925#32) ?_
  rw [column_apply, maxRow_apply]
  unfold Linear.rowMax
  exact congrArg (fun f => (Finset.univ : Finset (Fin 6656)).fold max (Ideal.ofBits .f32 0xFF800000#32) f)
    (funext fun b => congrArg Gelu.abs' (gAll_apply x0 x1 x2 x3 x4 a b))

/-- The exponents. -/
def eAll (x0 : Vec Ideal S6144x16384 .fp8e4m3) (x1 : Vec Ideal S6144x1 .f32) (x2 : Vec Ideal S16384x6656 .fp8e4m3) (x3 : Vec Ideal S1x6656 .f32) (x4 : Vec Ideal S1x6656 .bf16) : FVec Ideal S6144x1 .f32 :=
  k0_pay1 (k0_pay14 (k0_pay4 x0 x2 x1 x3 x4) (k0_pay5 x0 x2 x1 x3 x4) (k0_pay6 x0 x2 x1 x3 x4) (k0_pay10 x0 x2 x1 x3 x4) (k0_pay11 x0 x2 x1 x3 x4))
    (k0_pay15 (k0_pay4 x0 x2 x1 x3 x4) (k0_pay5 x0 x2 x1 x3 x4) (k0_pay6 x0 x2 x1 x3 x4) (k0_pay10 x0 x2 x1 x3 x4) (k0_pay11 x0 x2 x1 x3 x4))

/-- The exponents of a column of quotients. -/
def exponents (q : FVec Ideal S6144x1 .f32) : FVec Ideal S6144x1 .f32 :=
  select (andi (cmpf .oge q (broadcast S6144x1 (Scalar.ofBits .f32 0x00800000#32))) (cmpf .olt q (broadcast S6144x1 (Scalar.ofBits .f32 0x7E800000#32))))
    (addf (floor (divf (log q) (broadcast S6144x1 ((Real.log 2 : ℝ) : EReal)))) (broadcast S6144x1 (Scalar.ofBits .f32 0x3F800000#32)))
    (broadcast S6144x1 (Scalar.ofBits .f32 0x00000000#32))

/-- Each is the problem's exponent of its quotient. -/
theorem exponents_apply (q : FVec Ideal S6144x1 .f32) (y : S6144x1.Idx) : exponents q y = Exponent.reference (q y) := by
  unfold exponents Exponent.reference
  rfl

/-- The reference's exponents are those of its quotients. -/
theorem eAll_eq : eAll x0 x1 x2 x3 x4 = exponents (qAll x0 x1 x2 x3 x4) := by
  unfold eAll qAll k0_pay1 k0_pay14 k0_pay15
  rw [named_eq]
  generalize k0_pay13 (k0_pay4 x0 x2 x1 x3 x4) (k0_pay5 x0 x2 x1 x3 x4) (k0_pay6 x0 x2 x1 x3 x4) (k0_pay10 x0 x2 x1 x3 x4) (k0_pay11 x0 x2 x1 x3 x4) = q
  unfold exponents
  rfl

/-- Row by row they are the problem's. -/
theorem eAll_apply (y : S6144x1.Idx) : eAll x0 x1 x2 x3 x4 y = Exponent.reference (qAll x0 x1 x2 x3 x4 y) := by
  rw [eAll_eq, exponents_apply]

/-- The scales the reference stores. -/
def scaleAll (x0 : Vec Ideal S6144x16384 .fp8e4m3) (x1 : Vec Ideal S6144x1 .f32) (x2 : Vec Ideal S16384x6656 .fp8e4m3) (x3 : Vec Ideal S1x6656 .f32) (x4 : Vec Ideal S1x6656 .bf16) : FVec Ideal S6144x1 .f32 :=
  k0_pay2 (k0_pay14 (k0_pay4 x0 x2 x1 x3 x4) (k0_pay5 x0 x2 x1 x3 x4) (k0_pay6 x0 x2 x1 x3 x4) (k0_pay10 x0 x2 x1 x3 x4) (k0_pay11 x0 x2 x1 x3 x4))
    (k0_pay15 (k0_pay4 x0 x2 x1 x3 x4) (k0_pay5 x0 x2 x1 x3 x4) (k0_pay6 x0 x2 x1 x3 x4) (k0_pay10 x0 x2 x1 x3 x4) (k0_pay11 x0 x2 x1 x3 x4))

/-- They are the powers of two of the exponents. -/
theorem scaleAll_eq : scaleAll x0 x1 x2 x3 x4 = exp2 (eAll x0 x1 x2 x3 x4) := by
  unfold scaleAll eAll k0_pay2
  rfl

/-- One power of two of a column. -/
theorem exp2_apply (e : FVec Ideal S6144x1 .f32) (y : S6144x1.Idx) : exp2 e y = Ideal.exp2 (e y) := rfl

/-- Row by row they are the problem's. -/
theorem scaleAll_apply (a : Fin 6144) : scaleAll x0 x1 x2 x3 x4 (ix2 a 0) = Linear.scale x0 x1 x2 x3 x4 a := by
  rw [scaleAll_eq, exp2_apply, eAll_apply, qAll_apply]
  unfold Linear.scale Exponent.referenceScale
  rfl

/-- The codes the reference stores. -/
def codesAll (x0 : Vec Ideal S6144x16384 .fp8e4m3) (x1 : Vec Ideal S6144x1 .f32) (x2 : Vec Ideal S16384x6656 .fp8e4m3) (x3 : Vec Ideal S1x6656 .f32) (x4 : Vec Ideal S1x6656 .bf16) : FVec Ideal S6144x6656 .fp8e4m3 :=
  k0_pay3 (k0_pay12 (k0_pay4 x0 x2 x1 x3 x4) (k0_pay5 x0 x2 x1 x3 x4) (k0_pay6 x0 x2 x1 x3 x4) (k0_pay10 x0 x2 x1 x3 x4) (k0_pay11 x0 x2 x1 x3 x4))
    (k0_pay14 (k0_pay4 x0 x2 x1 x3 x4) (k0_pay5 x0 x2 x1 x3 x4) (k0_pay6 x0 x2 x1 x3 x4) (k0_pay10 x0 x2 x1 x3 x4) (k0_pay11 x0 x2 x1 x3 x4))
    (k0_pay15 (k0_pay4 x0 x2 x1 x3 x4) (k0_pay5 x0 x2 x1 x3 x4) (k0_pay6 x0 x2 x1 x3 x4) (k0_pay10 x0 x2 x1 x3 x4) (k0_pay11 x0 x2 x1 x3 x4))

/-- The powers of two of the negated exponents. -/
def invAll (e : FVec Ideal S6144x1 .f32) : FVec Ideal S6144x1 .f32 := exp2 (subf (broadcast S6144x1 (Scalar.ofBits .f32 0x00000000#32)) e)

/-- The activations times those powers, clipped. -/
def clipAll (g : FVec Ideal S6144x6656 .f32) (i : FVec Ideal S6144x1 .f32) : FVec Ideal S6144x6656 .f32 :=
  minimumf (broadcast S6144x6656 (Scalar.ofBits .f32 0x43E00000#32)) (maximumf (broadcast S6144x6656 (Scalar.ofBits .f32 0xC3E00000#32))
    (mulf g (broadcastTo S6144x6656 i broadcasts_S6144x1_S6144x6656)))

/-- The codes are the clipped activations. -/
theorem codesAll_eq : codesAll x0 x1 x2 x3 x4
    = truncf .fp8e4m3 (clipAll (gAll x0 x1 x2 x3 x4) (invAll (eAll x0 x1 x2 x3 x4))) bitsLt_fp8e4m3_f32 := by
  unfold codesAll gAll eAll k0_pay3 clipAll invAll
  rfl

/-- One clipped element. -/
theorem clipAll_apply (g : FVec Ideal S6144x6656 .f32) (i : FVec Ideal S6144x1 .f32) (a : Fin 6144) (b : Fin 6656) :
    clipAll g i (ix2 a b) = min (Ideal.ofBits .f32 0x43E00000#32) (max (Ideal.ofBits .f32 0xC3E00000#32) (g (ix2 a b) * i (ix2 a 0))) :=
  congrArg (fun z => min (Ideal.ofBits .f32 0x43E00000#32) (max (Ideal.ofBits .f32 0xC3E00000#32) (g (ix2 a b) * z))) (bcast_col i a b)

/-- One inverse scale. -/
theorem invAll_apply (e : FVec Ideal S6144x1 .f32) (y : S6144x1.Idx) : invAll e y = Ideal.exp2 (Ideal.ofBits .f32 0x00000000#32 - e y) := rfl

/-- The narrowing of the codes is the identity over the extended reals. -/
theorem truncf_apply (v : FVec Ideal S6144x6656 .f32) (y : S6144x6656.Idx) : truncf .fp8e4m3 v bitsLt_fp8e4m3_f32 y = v y := rfl

/-- Element by element they are the problem's. -/
theorem codesAll_apply (a : Fin 6144) (b : Fin 6656) : codesAll x0 x1 x2 x3 x4 (ix2 a b) = Linear.code x0 x1 x2 x3 x4 a b := by
  rw [codesAll_eq, truncf_apply, clipAll_apply, invAll_apply, eAll_apply, qAll_apply, gAll_apply]
  unfold Linear.code Exponent.referenceInv
  rfl

end Cert.ReferenceIdeal.Gen

end
-- ==== Proof.ReferenceIdeal.Arrays.lean ====
module

public import proofs.«01_k».proof.Proof.Gen.ReferenceIdeal.Frame
public import proofs.«01_k».proof.Proof.ReferenceIdeal.Whole
public import Idealize.ShloMosaic.Lib.Claim

/-! # The arrays the reference leaves

The reference has one grid point, and each window is a whole array: what the body computes of the arrays is what the
results hold after the run. -/

@[expose] public section

set_option maxRecDepth 16384

noncomputable section

namespace Cert.ReferenceIdeal.Gen

open Idealize.ShloMosaic Idealize.ShloMosaic.TcCoe Idealize.SL.Sem
open Idealize.ShloMosaic.Pipeline (Dat)
open Idealize.ShloMosaic.ValueIdx (ix2)

variable (x0 : Vec Ideal S6144x16384 .fp8e4m3) (x1 : Vec Ideal S6144x1 .f32) (x2 : Vec Ideal S16384x6656 .fp8e4m3) (x3 : Vec Ideal S1x6656 .f32) (x4 : Vec Ideal S1x6656 .bf16)

/-- The offsets of every access of the body. -/
theorem zeros : (![0, 0] : Fin 2 → Nat) = fun _ => 0 := by
  funext a
  match a with
  | ⟨0, _⟩ => rfl
  | ⟨1, _⟩ => rfl

/-- Each load is of a whole array. -/
theorem ld0 : View.ld x0 r0_0 = x0 := View.ld_unit_zero (S := S6144x16384) zeros inb_S6144x16384_S6144x16384_0_0 x0
theorem ld1 : View.ld x1 r0_2 = x1 := View.ld_unit_zero (S := S6144x1) zeros inb_S6144x1_S6144x1_0_0 x1
theorem ld2 : View.ld x2 r0_1 = x2 := View.ld_unit_zero (S := S16384x6656) zeros inb_S16384x6656_S16384x6656_0_0 x2
theorem ld3 : View.ld x3 r0_3 = x3 := View.ld_unit_zero (S := S1x6656) zeros inb_S1x6656_S1x6656_0_0 x3
theorem ld4 : View.ld x4 r0_3 = x4 := View.ld_unit_zero (S := S1x6656) zeros inb_S1x6656_S1x6656_0_0 x4

/-- The codes, as an array. -/
theorem codesAll_eq_codes : codesAll x0 x1 x2 x3 x4 = Linear.codes x0 x1 x2 x3 x4 := by
  funext y
  have e : y = ix2 (y 0) (y 1) := Shape.idx_ext₂ rfl rfl
  exact (congrArg (codesAll x0 x1 x2 x3 x4) e).trans (codesAll_apply x0 x1 x2 x3 x4 (y 0) (y 1))

/-- The scales, as an array. -/
theorem scaleAll_eq_scales : scaleAll x0 x1 x2 x3 x4 = Linear.scales x0 x1 x2 x3 x4 := by
  funext y
  have h : (y 1).val < 1 := (y 1).isLt
  have e : y = ix2 (y 0) 0 := Shape.idx_ext₂ rfl (show (y 1).val = 0 by omega)
  exact (congrArg (scaleAll x0 x1 x2 x3 x4) e).trans (scaleAll_apply x0 x1 x2 x3 x4 (y 0))

/-- What the body leaves of the codes. -/
theorem out5_eq : out0_5 x0 x1 x2 x3 x4 = Linear.codes x0 x1 x2 x3 x4 := by
  rw [← codesAll_eq_codes]
  unfold out0_5 k0_pay22 k0_pay21 k0_pay20 k0_pay19 k0_pay18 k0_pay17 k0_pay16
  rw [View.canon_unit_zero zeros]
  rw [ld0, ld1, ld2, ld3, ld4]
  rfl

/-- What the body leaves of the scales. -/
theorem out6_eq : out0_6 x0 x1 x2 x3 x4 = Linear.scales x0 x1 x2 x3 x4 := by
  rw [← scaleAll_eq_scales]
  unfold out0_6 k0_pay22 k0_pay21 k0_pay20 k0_pay19 k0_pay18 k0_pay17 k0_pay16
  rw [View.canon_unit_zero zeros]
  rw [ld0, ld1, ld2, ld3, ld4]
  rfl

/-! ## The blocks are the arrays -/

theorem index0 : ∀ (t : Fin grid0.N) (a : Fin 2), win0_0.index t a = 0 := by decide +kernel
theorem index1 : ∀ (t : Fin grid0.N) (a : Fin 2), win0_1.index t a = 0 := by decide +kernel
theorem index2 : ∀ (t : Fin grid0.N) (a : Fin 2), win0_2.index t a = 0 := by decide +kernel
theorem index3 : ∀ (t : Fin grid0.N) (a : Fin 2), win0_3.index t a = 0 := by decide +kernel
theorem index4 : ∀ (t : Fin grid0.N) (a : Fin 2), win0_4.index t a = 0 := by decide +kernel
theorem index5 : ∀ (t : Fin grid0.N) (a : Fin 2), win0_5.index t a = 0 := by decide +kernel
theorem index6 : ∀ (t : Fin grid0.N) (a : Fin 2), win0_6.index t a = 0 := by decide +kernel

variable (m : (ℓ : Loc nD τ sig) → Buf (Elt Ideal) ℓ) (ρ : Dev nD → PrngReg)

theorem iblk0 (c : Dev nD) (t : Fin cfg0.N) : (iblk m c 0 t : Vec Ideal S6144x16384 .fp8e4m3) = V m c main_v0 := by
  funext y
  show V m c main_v0 ((win0_0.rect t).emb y) = V m c main_v0 y
  exact congrArg _ (funext fun a => Fin.ext (win0_0.rect_emb_val_of_index_zero t a (index0 t a) y))
theorem iblk1 (c : Dev nD) (t : Fin cfg0.N) : (iblk m c 1 t : Vec Ideal S6144x1 .f32) = V m c main_v1 := by
  funext y
  show V m c main_v1 ((win0_1.rect t).emb y) = V m c main_v1 y
  exact congrArg _ (funext fun a => Fin.ext (win0_1.rect_emb_val_of_index_zero t a (index1 t a) y))
theorem iblk2 (c : Dev nD) (t : Fin cfg0.N) : (iblk m c 2 t : Vec Ideal S16384x6656 .fp8e4m3) = V m c main_arg2 := by
  funext y
  show V m c main_arg2 ((win0_2.rect t).emb y) = V m c main_arg2 y
  exact congrArg _ (funext fun a => Fin.ext (win0_2.rect_emb_val_of_index_zero t a (index2 t a) y))
theorem iblk3 (c : Dev nD) (t : Fin cfg0.N) : (iblk m c 3 t : Vec Ideal S1x6656 .f32) = V m c main_v2 := by
  funext y
  show V m c main_v2 ((win0_3.rect t).emb y) = V m c main_v2 y
  exact congrArg _ (funext fun a => Fin.ext (win0_3.rect_emb_val_of_index_zero t a (index3 t a) y))
theorem iblk4 (c : Dev nD) (t : Fin cfg0.N) : (iblk m c 4 t : Vec Ideal S1x6656 .bf16) = V m c main_v3 := by
  funext y
  show V m c main_v3 ((win0_4.rect t).emb y) = V m c main_v3 y
  exact congrArg _ (funext fun a => Fin.ext (win0_4.rect_emb_val_of_index_zero t a (index4 t a) y))

/-! ## The results -/

/-- The codes of the problem, of the arrays the kernel is entered with. -/
def codesOut (c : Dev nD) : Vec Ideal S6144x6656 .fp8e4m3 := Linear.codes (V m c main_v0) (V m c main_v1) (V m c main_arg2) (V m c main_v2) (V m c main_v3)

/-- The scales of the problem, of the arrays the kernel is entered with. -/
def scalesOut (c : Dev nD) : Vec Ideal S6144x1 .f32 := Linear.scales (V m c main_v0) (V m c main_v1) (V m c main_arg2) (V m c main_v2) (V m c main_v3)

/-- The one point writes back the codes. -/
theorem flushed5 (c : Dev nD) (t : Fin cfg0.N) : (dats m 0 c).flushed 5 t = (win0_5.blk t).view.read (Elt Ideal) (codesOut m c) := by
  show (cfg0.win 5).cut (grid0.coords t) ((dats m 0 c).after 5 t) = _
  rw [after0_5, out5_eq, iblk0, iblk1, iblk2, iblk3, iblk4]
  funext y
  show codesOut m c y = codesOut m c ((win0_5.rect t).emb y)
  exact congrArg _ (funext fun a => Fin.ext (win0_5.rect_emb_val_of_index_zero t a (index5 t a) y).symm)

/-- The one point writes back the scales. -/
theorem flushed6 (c : Dev nD) (t : Fin cfg0.N) : (dats m 0 c).flushed 6 t = (win0_6.blk t).view.read (Elt Ideal) (scalesOut m c) := by
  show (cfg0.win 6).cut (grid0.coords t) ((dats m 0 c).after 6 t) = _
  rw [after0_6, out6_eq, iblk0, iblk1, iblk2, iblk3, iblk4]
  funext y
  show scalesOut m c y = scalesOut m c ((win0_6.rect t).emb y)
  exact congrArg _ (funext fun a => Fin.ext (win0_6.rect_emb_val_of_index_zero t a (index6 t a) y).symm)

/-- The block of the codes is the whole array. -/
theorem cover5 (i : S6144x6656.Idx) : ∃ t : Fin cfg0.N, (cfg0.win 5).flush t = true ∧ i ∈ ((cfg0.win 5).blk t).view.set := by
  refine ⟨t0_0, flush0_5 _, ?_⟩
  have e : ((cfg0.win 5).blk t0_0).view.emb i = i :=
    funext fun a => Fin.ext (win0_5.rect_emb_val_of_index_zero t0_0 a (index5 t0_0 a) i)
  exact e ▸ ((cfg0.win 5).blk t0_0).view.emb_mem_set i

/-- The block of the scales is the whole array. -/
theorem cover6 (i : S6144x1.Idx) : ∃ t : Fin cfg0.N, (cfg0.win 6).flush t = true ∧ i ∈ ((cfg0.win 6).blk t).view.set := by
  refine ⟨t0_0, flush0_6 _, ?_⟩
  have e : ((cfg0.win 6).blk t0_0).view.emb i = i :=
    funext fun a => Fin.ext (win0_6.rect_emb_val_of_index_zero t0_0 a (index6 t0_0 a) i)
  exact e ▸ ((cfg0.win 6).blk t0_0).view.emb_mem_set i

/-- The codes after the run. -/
theorem final5 (c : Dev nD) : (dats m 0 c).arrAt 5 cfg0.N = codesOut m c :=
  (dats m 0 c).arrAt_eq_of_cover 5 (codesOut m c) (fun t _ => flushed5 m c t) cover5

/-- The scales after the run. -/
theorem final6 (c : Dev nD) : (dats m 0 c).arrAt 6 cfg0.N = scalesOut m c :=
  (dats m 0 c).arrAt_eq_of_cover 6 (scalesOut m c) (fun t _ => flushed6 m c t) cover6

/-! ## The arrays the kernel is entered with, and the run -/

/-- `main_v0` is `main_arg0` reshaped. -/
theorem entry0 (c : Dev nD) : V m c main_v0 = shapeCast S6144x16384 (m ((c : Thread nD τ).loc main_arg0)) shapeCasts_S4x1536x16384_S6144x16384 := by
  show StableHlo.after hostOps0 _ (Proc.devRef .tc main_v0) = _
  after_results
  rfl

/-- `main_v1` is `main_arg1` reshaped. -/
theorem entry1 (c : Dev nD) : V m c main_v1 = shapeCast S6144x1 (m ((c : Thread nD τ).loc main_arg1)) shapeCasts_S4x1536x1_S6144x1 := by
  show StableHlo.after hostOps0 _ (Proc.devRef .tc main_v1) = _
  after_results
  rfl

/-- `main_v2` is `main_arg3` reshaped. -/
theorem entry2 (c : Dev nD) : V m c main_v2 = shapeCast S1x6656 (m ((c : Thread nD τ).loc main_arg3)) shapeCasts_S6656_S1x6656 := by
  show StableHlo.after hostOps0 _ (Proc.devRef .tc main_v2) = _
  after_results
  rfl

/-- `main_v3` is `main_arg4` reshaped. -/
theorem entry3 (c : Dev nD) : V m c main_v3 = shapeCast S1x6656 (m ((c : Thread nD τ).loc main_arg4)) shapeCasts_S6656_S1x6656 := by
  show StableHlo.after hostOps0 _ (Proc.devRef .tc main_v3) = _
  after_results
  rfl

/-- Every execution ends with the problem's codes and scales in the results and the arguments unchanged. -/
theorem results : θ_run defs (onTc (τ := τ) (main (F := Ideal))) ⟨m, fun _ => 0, ρ⟩ (fun r => ∀ c : Dev nD,
      r.2.mem ((c.tc : Thread nD τ).loc main_v4_0) = codesOut m c
      ∧ r.2.mem ((c.tc : Thread nD τ).loc main_v4_1) = scalesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c), h.2 c⟩)
    (θ_run_and (run_main m ρ) (frame_of m ρ (dats m) (A_eq m) (run_main m ρ)))

end Cert.ReferenceIdeal.Gen

end
-- ==== Proof.Equation.Algebraic.lean ====
module

public import proofs.«01_k».proof.Defs
public import proofs.«01_k».proof.Proof.KernelIdeal.Arrays
public import proofs.«01_k».proof.Proof.ReferenceIdeal.Arrays

/-! # The kernel and the reference leave the same arrays

Each leaves the problem's codes and scales of the reshaped arguments, and the two reshape alike. -/

@[expose] public section

set_option maxRecDepth 16384

noncomputable section

namespace Cert.Equation

open Idealize.ShloMosaic Idealize.ShloMosaic.TcCoe Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The two programs are given the same arguments. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

variable {m m'}
variable {c : Dev KernelIdeal.nD}

/-! The kernels are then entered with the same arrays. -/

theorem entry0 (h : Same m m' c) : (ReferenceIdeal.Gen.V m' c ReferenceIdeal.main_v0 : KernelIdeal.S6144x16384.Idx → EReal) = KernelIdeal.Gen.V m c KernelIdeal.main_v0 :=
  (ReferenceIdeal.Gen.entry0 m' c).trans ((congrArg (fun v => shapeCast KernelIdeal.S6144x16384 v KernelIdeal.Gen.shapeCasts_S4x1536x16384_S6144x16384) h.1).trans (KernelIdeal.Gen.entry0 m c).symm)

theorem entry1 (h : Same m m' c) : (ReferenceIdeal.Gen.V m' c ReferenceIdeal.main_v1 : KernelIdeal.S6144x1.Idx → EReal) = KernelIdeal.Gen.V m c KernelIdeal.main_v1 :=
  (ReferenceIdeal.Gen.entry1 m' c).trans ((congrArg (fun v => shapeCast KernelIdeal.S6144x1 v KernelIdeal.Gen.shapeCasts_S4x1536x1_S6144x1) h.2.1).trans (KernelIdeal.Gen.entry1 m c).symm)

theorem entry2 (h : Same m m' c) : (ReferenceIdeal.Gen.V m' c ReferenceIdeal.main_v2 : KernelIdeal.S1x6656.Idx → EReal) = KernelIdeal.Gen.V m c KernelIdeal.main_v2 :=
  (ReferenceIdeal.Gen.entry2 m' c).trans ((congrArg (fun v => shapeCast KernelIdeal.S1x6656 v KernelIdeal.Gen.shapeCasts_S6656_S1x6656) h.2.2.2.1).trans (KernelIdeal.Gen.entry2 m c).symm)

theorem entry3 (h : Same m m' c) : (ReferenceIdeal.Gen.V m' c ReferenceIdeal.main_v3 : KernelIdeal.S1x6656.Idx → EReal) = KernelIdeal.Gen.V m c KernelIdeal.main_v3 :=
  (ReferenceIdeal.Gen.entry3 m' c).trans ((congrArg (fun v => shapeCast KernelIdeal.S1x6656 v KernelIdeal.Gen.shapeCasts_S6656_S1x6656) h.2.2.2.2).trans (KernelIdeal.Gen.entry3 m c).symm)

theorem weights (h : Same m m' c) : (ReferenceIdeal.Gen.V m' c ReferenceIdeal.main_arg2 : KernelIdeal.S16384x6656.Idx → EReal) = KernelIdeal.Gen.V m c KernelIdeal.main_arg2 :=
  (ReferenceIdeal.Gen.V_main_arg2 m' c).trans (h.2.2.1.trans (KernelIdeal.Gen.V_main_arg2 m c).symm)

/-- The codes are the same. -/
theorem codes_eq (h : Same m m' c) : (ReferenceIdeal.Gen.codesOut m' c : KernelIdeal.S6144x6656.Idx → EReal) = KernelIdeal.Gen.codesOut m c := by
  unfold ReferenceIdeal.Gen.codesOut KernelIdeal.Gen.codesOut
  exact congr (congr (congr (congr (congrArg (Linear.codes (M := 6144) (N := 6656)) (entry0 h)) (entry1 h)) (weights h)) (entry2 h)) (entry3 h)

/-- The scales are the same. -/
theorem scales_eq (h : Same m m' c) : (ReferenceIdeal.Gen.scalesOut m' c : KernelIdeal.S6144x1.Idx → EReal) = KernelIdeal.Gen.scalesOut m c := by
  unfold ReferenceIdeal.Gen.scalesOut KernelIdeal.Gen.scalesOut
  exact congr (congr (congr (congr (congrArg (Linear.scales (M := 6144) (N := 6656)) (entry0 h)) (entry1 h)) (weights h)) (entry2 h)) (entry3 h)

/-- The kernel and the reference compute the same function over the extended reals. -/
theorem algebraic : algebraic_KernelIdeal_ReferenceIdeal := by
  intro m g m' g' _ h
  refine ⟨fun c => KernelIdeal.Gen.codesOut m c, fun c => KernelIdeal.Gen.scalesOut m c, KernelIdeal.Gen.results m g, ?_⟩
  exact (θ_run ReferenceIdeal.defs _ _).mono
    (fun _ hr c => ⟨(hr c).1.trans (codes_eq (h c)), (hr c).2.1.trans (scales_eq (h c)), (hr c).2.2⟩)
    (ReferenceIdeal.Gen.results m' g')

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Frame
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Equation.Algebraic
public import Idealize.ShloMosaic.Adequacy
public import Idealize.ShloMosaic.Init

@[expose] public section

noncomputable section

namespace Cert.Proof

open Idealize.ShloMosaic Idealize.SL.Sem Cert.Kernel

/-- The kernel's named constant is what its print was rewritten from. -/
theorem preservesKernel : preserves_Kernel_KernelIdeal :=
  IdealRules.named_const.statement Cert.KernelIdeal.κ "neg_half_log2e" .f32 0xBF38AA3B#32 _ rfl

/-- The reference's named constant is what its print was rewritten from. -/
theorem preservesReference : preserves_Reference_ReferenceIdeal :=
  IdealRules.named_const.statement Cert.ReferenceIdeal.κ "ln2" .f32 0x3F317218#32 _ rfl

theorem claim : Cert.Claim := ⟨Cert.Kernel.Gen.facts, Cert.KernelIdeal.Gen.facts, Cert.ReferenceIdeal.Gen.facts, Cert.Reference.Gen.facts,
  fun m g _ => Cert.Kernel.Gen.frame m g,
  fun m g _ => Cert.KernelIdeal.Gen.frame m g,
  fun m g _ => Cert.ReferenceIdeal.Gen.frame m g,
  fun m g _ => Cert.Reference.Gen.frame m g,
  preservesKernel, preservesReference, Cert.Equation.algebraic⟩

end Cert.Proof

end
